-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_on_nearest_is_one_pre_finite [hKernelIdeal : Cert.KernelIdeal.Facts] [hReferenceIdeal : Cert.ReferenceIdeal.Facts] [hPre_finite : Cert.Pre_finite.Facts] [hOn_nearest_is_one : Cert.On_nearest_is_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![16, 1024, 64]⟩ : Shape).Idx, (Cert.On_nearest_is_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v0_0) i = v0 c i)
          ∧ (∀ i : (⟨0, ![]⟩ : Shape).Idx, (Cert.On_nearest_is_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![16, 1024, 64]⟩ : Shape).Idx, (Cert.On_nearest_is_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v37) i = v0 c i)
          ∧ (∀ i : (⟨0, ![]⟩ : Shape).Idx, (Cert.On_nearest_is_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_v28) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_tame : Cert.Pre_tame.Facts) (hPre_finite : Cert.Pre_finite.Facts) (hOn_nearest_is_one : Cert.On_nearest_is_one.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_KernelIdeal_pre_finite (hKernelIdeal := hKernelIdeal) (hPre_finite := hPre_finite)
    ∧ quiescent_ReferenceIdeal (hReferenceIdeal := hReferenceIdeal)
    ∧ quiescent_ReferenceIdeal_pre_tame (hReferenceIdeal := hReferenceIdeal) (hPre_tame := hPre_tame)
    ∧ quiescent_ReferenceIdeal_pre_finite (hReferenceIdeal := hReferenceIdeal) (hPre_finite := hPre_finite)
    ∧ preserves_Kernel_KernelIdeal
    ∧ algebraic_KernelIdeal_ReferenceIdeal_pre_tame (hKernelIdeal := hKernelIdeal) (hReferenceIdeal := hReferenceIdeal) (hPre_tame := hPre_tame)
    ∧ algebraic_KernelIdeal_ReferenceIdeal_on_nearest_is_one_pre_finite (hKernelIdeal := hKernelIdeal) (hReferenceIdeal := hReferenceIdeal) (hPre_finite := hPre_finite) (hOn_nearest_is_one := hOn_nearest_is_one)
-- ==== On_nearest_is_one.lean ====
abbrev S16x1024x64 : Shape := ⟨3, ![16, 1024, 64]⟩
abbrev S1024x64 : Shape := ⟨2, ![1024, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S64x1024 : Shape := ⟨2, ![64, 1024]⟩
abbrev S16384x1024 : Shape := ⟨2, ![16384, 1024]⟩
abbrev S1024 : Shape := ⟨1, ![1024]⟩
abbrev S1x1024 : Shape := ⟨2, ![1, 1024]⟩

class Facts : Prop where
  shapeCasts_S16x1024x64_S16384x64 : S16x1024x64.ShapeCasts S16384x64
  reducesTo_S16384x64_S16384_d1 : S16384x64.ReducesTo [1] S16384
  h_S_ : 0 < S_.numel
  bcast_S16384_S16384x1_0 : S16384.BroadcastsInDim S16384x1 (![0] : Fin 1 → Fin S16384x1.rank)
  transposes_S1024x64_S64x1024_1_0 : S1024x64.Transposes [1, 0] S64x1024
  bcast_S_S16384x1024 : S_.BroadcastsInDim S16384x1024 (![] : Fin 0 → Fin S16384x1024.rank)
  bcast_S16384x1_S16384x1024_0_1 : S16384x1.BroadcastsInDim S16384x1024 (![0, 1] : Fin 2 → Fin S16384x1024.rank)
  reducesTo_S64x1024_S1024_d0 : S64x1024.ReducesTo [0] S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  natLt_1_32 : 1 < 32
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  shapeCasts_S16384x64_S16x1024x64 : S16384x64.ShapeCasts S16x1024x64
  dot_S16384x64_S64x1024_S16384x1024_1_0_0_1_n_n_wf : DotDims.WF S16384x64 S64x1024 S16384x1024 [1] [0] [0] [1] [] []

variable [Facts]

def dot_S16384x64_S64x1024_S16384x1024_1_0_0_1_n_n : DotDims S16384x64 S64x1024 S16384x1024 where
  lhsContracting := [1]
  rhsContracting := [0]
  lhsNonContracting := [0]
  rhsNonContracting := [1]
  lhsBatch := []
  rhsBatch := []
  wf := dot_S16384x64_S64x1024_S16384x1024_1_0_0_1_n_n_wf
def fn_part1 {F : FTy → Type} [FloatOps F] (main_v19 : IVec S16384x1024 1) : IVec S16x1024x64 1 × IVec S_ 1 :=
  let main_v20 : IVec S16384x1024 32 := (extui 32 · natLt_1_32) main_v19
  let main_c : IVec S_ 32 := constantI S_ 32 0#32
  let main_v21 : IVec S16384 32 := (fun x v => Host.reduce IntOp.addi x v reducesTo_S16384x1024_S16384_d1 h_S_) main_v20 main_c
  let main_v22 : IVec S16384x1 32 := broadcastInDim S16384x1 ![0] bcast_S16384_S16384x1_0 main_v21
  let main_c_3 : IVec S_ 32 := constantI S_ 32 1#32
  let main_v23 : IVec S16384x1 32 := broadcastInDim S16384x1 ![] bcast_S_S16384x1 main_c_3
  let main_v24 : IVec S16384x1 1 := cmpi .eq main_v22 main_v23
  let main_v25 : IVec S16384x64 1 := broadcastInDim S16384x64 ![0, 1] bcast_S16384x1_S16384x64_0_1 main_v24
  let main_v26 : IVec S16x1024x64 1 := shapeCast S16x1024x64 main_v25 shapeCasts_S16384x64_S16x1024x64
  let main_c_4 : IVec S_ 1 := constantI S_ 1 1#1
  (main_v26, main_c_4)

def fn {F : FTy → Type} [FloatOps F] (main_arg0 : FVec F S16x1024x64 .f32) (main_arg1 : FVec F S1024x64 .f32) : IVec S16x1024x64 1 × IVec S_ 1 :=
  let main_v0 : FVec F S16384x64 .f32 := shapeCast S16384x64 main_arg0 shapeCasts_S16x1024x64_S16384x64
  let main_v1 : FVec F S16384x64 .f32 := mulf main_v0 main_v0
  let main_cst : FVec F S_ .f32 := constant S_ .f32 0x00000000#32
  let main_v2 : FVec F S16384 .f32 := (fun x v => Host.reduceAdd x v reducesTo_S16384x64_S16384_d1 h_S_) main_v1 main_cst
  let main_v3 : FVec F S16384x1 .f32 := broadcastInDim S16384x1 ![0] bcast_S16384_S16384x1_0 main_v2
  let main_v4 : FVec F S64x1024 .f32 := (transpose S64x1024 [1, 0] · transposes_S1024x64_S64x1024_1_0) main_arg1
  let main_v5 : FVec F S16384x1024 .f32 := (fun l r => Host.dotGeneral dot_S16384x64_S64x1024_S16384x1024_1_0_0_1_n_n none l r) main_v0 main_v4
  let main_cst_0 : FVec F S_ .f32 := constant S_ .f32 0x40000000#32
  let main_v6 : FVec F S16384x1024 .f32 := broadcastInDim S16384x1024 ![] bcast_S_S16384x1024 main_cst_0
  let main_v7 : FVec F S16384x1024 .f32 := mulf main_v6 main_v5
  let main_v8 : FVec F S16384x1024 .f32 := broadcastInDim S16384x1024 ![0, 1] bcast_S16384x1_S16384x1024_0_1 main_v3
  let main_v9 : FVec F S16384x1024 .f32 := subf main_v8 main_v7
  let main_v10 : FVec F S64x1024 .f32 := (transpose S64x1024 [1, 0] · transposes_S1024x64_S64x1024_1_0) main_arg1
  let main_v11 : FVec F S64x1024 .f32 := mulf main_v10 main_v10
  let main_cst_1 : FVec F S_ .f32 := constant S_ .f32 0x00000000#32
  let main_v12 : FVec F S1024 .f32 := (fun x v => Host.reduceAdd x v reducesTo_S64x1024_S1024_d0 h_S_) main_v11 main_cst_1
  let main_v13 : FVec F S1x1024 .f32 := broadcastInDim S1x1024 ![1] bcast_S1024_S1x1024_1 main_v12
  let main_v14 : FVec F S16384x1024 .f32 := broadcastInDim S16384x1024 ![0, 1] bcast_S1x1024_S16384x1024_0_1 main_v13
  let main_v15 : FVec F S16384x1024 .f32 := addf main_v9 main_v14
  let main_cst_2 : FVec F S_ .f32 := constant S_ .f32 0x7F800000#32
  let main_v16 : FVec F S16384 .f32 := (fun x v => Host.reduce FloatOps.minimumf x v reducesTo_S16384x1024_S16384_d1 h_S_) main_v15 main_cst_2
  let main_v17 : FVec F S16384x1 .f32 := broadcastInDim S16384x1 ![0] bcast_S16384_S16384x1_0 main_v16
  let main_v18 : FVec F S16384x1024 .f32 := broadcastInDim S16384x1024 ![0, 1] bcast_S16384x1_S16384x1024_0_1 main_v17
  let main_v19 : IVec S16384x1024 1 := cmpf .oeq main_v15 main_v18
  fn_part1 (F := F) main_v19
-- ==== Pre_finite.lean ====
abbrev S16x1024x64 : Shape := ⟨3, ![16, 1024, 64]⟩
abbrev S1024x64 : Shape := ⟨2, ![1024, 64]⟩
abbrev S_ : Shape := ⟨0, ![]⟩

class Facts : Prop where
  bcast_S_S16x1024x64 : S_.BroadcastsInDim S16x1024x64 (![] : Fin 0 → Fin S16x1024x64.rank)
  bcast_S_S1024x64 : S_.BroadcastsInDim S1024x64 (![] : Fin 0 → Fin S1024x64.rank)

variable [Facts]

def fn {F : FTy → Type} [FloatOps F] (main_arg0 : FVec F S16x1024x64 .f32) (main_arg1 : FVec F S1024x64 .f32) : IVec S16x1024x64 1 × IVec S1024x64 1 :=
  let main_v0 : FVec F S16x1024x64 .f32 := Host.absf main_arg0
  let main_cst : FVec F S_ .f32 := constant S_ .f32 0x7F800000#32
  let main_v1 : FVec F S16x1024x64 .f32 := broadcastInDim S16x1024x64 ![] bcast_S_S16x1024x64 main_cst
  let main_v2 : IVec S16x1024x64 1 := cmpf .olt main_v0 main_v1
  let main_v3 : FVec F S1024x64 .f32 := Host.absf main_arg1
  let main_cst_0 : FVec F S_ .f32 := constant S_ .f32 0x7F800000#32
  let main_v4 : FVec F S1024x64 .f32 := broadcastInDim S1024x64 ![] bcast_S_S1024x64 main_cst_0
  let main_v5 : IVec S1024x64 1 := cmpf .olt main_v3 main_v4
  (main_v2, main_v5)
-- ==== Pre_tame.lean ====
abbrev S16x1024x64 : Shape := ⟨3, ![16, 1024, 64]⟩
abbrev S1024x64 : Shape := ⟨2, ![1024, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S64x1024 : Shape := ⟨2, ![64, 1024]⟩
abbrev S16384x1024 : Shape := ⟨2, ![16384, 1024]⟩
abbrev S1024 : Shape := ⟨1, ![1024]⟩
abbrev S1x1024 : Shape := ⟨2, ![1, 1024]⟩

class Facts : Prop where
  shapeCasts_S16x1024x64_S16384x64 : S16x1024x64.ShapeCasts S16384x64
  reducesTo_S16384x64_S16384_d1 : S16384x64.ReducesTo [1] S16384
  h_S_ : 0 < S_.numel
  bcast_S16384_S16384x1_0 : S16384.BroadcastsInDim S16384x1 (![0] : Fin 1 → Fin S16384x1.rank)
  transposes_S1024x64_S64x1024_1_0 : S1024x64.Transposes [1, 0] S64x1024
  bcast_S_S16384x1024 : S_.BroadcastsInDim S16384x1024 (![] : Fin 0 → Fin S16384x1024.rank)
  bcast_S16384x1_S16384x1024_0_1 : S16384x1.BroadcastsInDim S16384x1024 (![0, 1] : Fin 2 → Fin S16384x1024.rank)
  reducesTo_S64x1024_S1024_d0 : S64x1024.ReducesTo [0] S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  natLt_1_32 : 1 < 32
  bcast_S_S16384x1 : S_.BroadcastsInDim S16384x1 (![] : Fin 0 → Fin S16384x1.rank)
  bcast_S_S16x1024x64 : S_.BroadcastsInDim S16x1024x64 (![] : Fin 0 → Fin S16x1024x64.rank)
  bcast_S_S1024x64 : S_.BroadcastsInDim S1024x64 (![] : Fin 0 → Fin S1024x64.rank)
  dot_S16384x64_S64x1024_S16384x1024_1_0_0_1_n_n_wf : DotDims.WF S16384x64 S64x1024 S16384x1024 [1] [0] [0] [1] [] []

variable [Facts]

def dot_S16384x64_S64x1024_S16384x1024_1_0_0_1_n_n : DotDims S16384x64 S64x1024 S16384x1024 where
  lhsContracting := [1]
  rhsContracting := [0]
  lhsNonContracting := [0]
  rhsNonContracting := [1]
  lhsBatch := []
  rhsBatch := []
  wf := dot_S16384x64_S64x1024_S16384x1024_1_0_0_1_n_n_wf
def fn_part1 {F : FTy → Type} [FloatOps F] (main_arg0 : FVec F S16x1024x64 .f32) (main_arg1 : FVec F S1024x64 .f32) (main_v19 : IVec S16384x1024 1) : IVec S16x1024x64 1 × IVec S1024x64 1 × IVec S16384x1 1 :=
  let main_v20 : IVec S16384x1024 32 := (extui 32 · natLt_1_32) main_v19
  let main_c : IVec S_ 32 := constantI S_ 32 0#32
  let main_v21 : IVec S16384 32 := (fun x v => Host.reduce IntOp.addi x v reducesTo_S16384x1024_S16384_d1 h_S_) main_v20 main_c
  let main_v22 : IVec S16384x1 32 := broadcastInDim S16384x1 ![0] bcast_S16384_S16384x1_0 main_v21
  let main_c_3 : IVec S_ 32 := constantI S_ 32 1#32
  let main_v23 : IVec S16384x1 32 := broadcastInDim S16384x1 ![] bcast_S_S16384x1 main_c_3
  let main_v24 : IVec S16384x1 1 := cmpi .eq main_v22 main_v23
  let main_v25 : FVec F S16x1024x64 .f32 := Host.absf main_arg0
  let main_cst_4 : FVec F S_ .f32 := constant S_ .f32 0x7F800000#32
  let main_v26 : FVec F S16x1024x64 .f32 := broadcastInDim S16x1024x64 ![] bcast_S_S16x1024x64 main_cst_4
  let main_v27 : IVec S16x1024x64 1 := cmpf .olt main_v25 main_v26
  let main_v28 : FVec F S1024x64 .f32 := Host.absf main_arg1
  let main_cst_5 : FVec F S_ .f32 := constant S_ .f32 0x7F800000#32
  let main_v29 : FVec F S1024x64 .f32 := broadcastInDim S1024x64 ![] bcast_S_S1024x64 main_cst_5
  let main_v30 : IVec S1024x64 1 := cmpf .olt main_v28 main_v29
  (main_v27, main_v30, main_v24)

def fn {F : FTy → Type} [FloatOps F] (main_arg0 : FVec F S16x1024x64 .f32) (main_arg1 : FVec F S1024x64 .f32) : IVec S16x1024x64 1 × IVec S1024x64 1 × IVec S16384x1 1 :=
  let main_v0 : FVec F S16384x64 .f32 := shapeCast S16384x64 main_arg0 shapeCasts_S16x1024x64_S16384x64
  let main_v1 : FVec F S16384x64 .f32 := mulf main_v0 main_v0
  let main_cst : FVec F S_ .f32 := constant S_ .f32 0x00000000#32
  let main_v2 : FVec F S16384 .f32 := (fun x v => Host.reduceAdd x v reducesTo_S16384x64_S16384_d1 h_S_) main_v1 main_cst
  let main_v3 : FVec F S16384x1 .f32 := broadcastInDim S16384x1 ![0] bcast_S16384_S16384x1_0 main_v2
  let main_v4 : FVec F S64x1024 .f32 := (transpose S64x1024 [1, 0] · transposes_S1024x64_S64x1024_1_0) main_arg1
  let main_v5 : FVec F S16384x1024 .f32 := (fun l r => Host.dotGeneral dot_S16384x64_S64x1024_S16384x1024_1_0_0_1_n_n none l r) main_v0 main_v4
  let main_cst_0 : FVec F S_ .f32 := constant S_ .f32 0x40000000#32
  let main_v6 : FVec F S16384x1024 .f32 := broadcastInDim S16384x1024 ![] bcast_S_S16384x1024 main_cst_0
  let main_v7 : FVec F S16384x1024 .f32 := mulf main_v6 main_v5
  let main_v8 : FVec F S16384x1024 .f32 := broadcastInDim S16384x1024 ![0, 1] bcast_S16384x1_S16384x1024_0_1 main_v3
  let main_v9 : FVec F S16384x1024 .f32 := subf main_v8 main_v7
  let main_v10 : FVec F S64x1024 .f32 := (transpose S64x1024 [1, 0] · transposes_S1024x64_S64x1024_1_0) main_arg1
  let main_v11 : FVec F S64x1024 .f32 := mulf main_v10 main_v10
  let main_cst_1 : FVec F S_ .f32 := constant S_ .f32 0x00000000#32
  let main_v12 : FVec F S1024 .f32 := (fun x v => Host.reduceAdd x v reducesTo_S64x1024_S1024_d0 h_S_) main_v11 main_cst_1
  let main_v13 : FVec F S1x1024 .f32 := broadcastInDim S1x1024 ![1] bcast_S1024_S1x1024_1 main_v12
  let main_v14 : FVec F S16384x1024 .f32 := broadcastInDim S16384x1024 ![0, 1] bcast_S1x1024_S16384x1024_0_1 main_v13
  let main_v15 : FVec F S16384x1024 .f32 := addf main_v9 main_v14
  let main_cst_2 : FVec F S_ .f32 := constant S_ .f32 0x7F800000#32
  let main_v16 : FVec F S16384 .f32 := (fun x v => Host.reduce FloatOps.minimumf x v reducesTo_S16384x1024_S16384_d1 h_S_) main_v15 main_cst_2
  let main_v17 : FVec F S16384x1 .f32 := broadcastInDim S16384x1 ![0] bcast_S16384_S16384x1_0 main_v16
  let main_v18 : FVec F S16384x1024 .f32 := broadcastInDim S16384x1024 ![0, 1] bcast_S16384x1_S16384x1024_0_1 main_v17
  let main_v19 : IVec S16384x1024 1 := cmpf .oeq main_v15 main_v18
  fn_part1 (F := F) main_arg0 main_arg1 main_v19
-- ==== Kernel.lean ====
abbrev S16x1024x64 : Shape := ⟨3, ![16, 1024, 64]⟩
abbrev S1024x64 : Shape := ⟨2, ![1024, 64]⟩
abbrev S16384x64 : Shape := ⟨2, ![16384, 64]⟩
abbrev S1x1 : Shape := ⟨2, ![1, 1]⟩
abbrev S_ : Shape := ⟨0, ![]⟩
abbrev S4096x64 : Shape := ⟨2, ![4096, 64]⟩
abbrev S1024 : Shape := ⟨1, ![1024]⟩
abbrev S1x1024 : Shape := ⟨2, ![1, 1024]⟩
abbrev S4096x1024 : Shape := ⟨2, ![4096, 1024]⟩
abbrev S4096 : Shape := ⟨1, ![4096]⟩
abbrev S4096x1 : Shape := ⟨2, ![4096, 1]⟩
abbrev S64x64 : Shape := ⟨2, ![64, 64]⟩
abbrev S1x64 : Shape := ⟨2, ![1, 64]⟩
abbrev S64 : Shape := ⟨1, ![64]⟩
abbrev S1x4096x1 : Shape := ⟨3, ![1, 4096, 1]⟩
abbrev S1 : Shape := ⟨1, ![1]⟩
abbrev S1x1x1 : Shape := ⟨3, ![1, 1, 1]⟩

abbrev nBuf : Space → Nat
  | .hbm => 7
  | .vmem => 6
  | .smem => 0
  | _ => 0

abbrev bufTy : (tb : Table) → Fin (tcTables nBuf tb) → BufTy
  | .hbm, ⟨0, _⟩ => ⟨S16x1024x64, .f32⟩
  | .hbm, ⟨1, _⟩ => ⟨S1024x64, .f32⟩
  | .hbm, ⟨2, _⟩ => ⟨S16384x64, .f32⟩
  | .hbm, ⟨3, _⟩ => ⟨S16384x64, .f32⟩
  | .hbm, ⟨4, _⟩ => ⟨S1x1, .f32⟩
  | .hbm, ⟨5, _⟩ => ⟨S16x1024x64, .f32⟩
  | .hbm, ⟨6, _⟩ => ⟨S_, .f32⟩
  | .local _ .vmem, ⟨0, _⟩ => ⟨S4096x64, .f32⟩
  | .local _ .vmem, ⟨1, _⟩ => ⟨S4096x64, .f32⟩
  | .local _ .vmem, ⟨2, _⟩ => ⟨S1024x64, .f32⟩
  | .local _ .vmem, ⟨3, _⟩ => ⟨S4096x64, .f32⟩
  | .local _ .vmem, ⟨4, _⟩ => ⟨S4096x64, .f32⟩
  | .local _ .vmem, ⟨5, _⟩ => ⟨S1x1, .f32⟩
  | _, _ => ⟨S16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S16x1024x64 : Shape := ⟨3, ![16, 1024, 64]⟩
abbrev S1024x64 : Shape := ⟨2, ![1024, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S64x1024 : Shape := ⟨2, ![64, 1024]⟩
abbrev S16384x1024 : Shape := ⟨2, ![16384, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 89
  | .vmem => 0
  | .smem => 0
  | _ => 0

abbrev bufTy : (tb : Table) → Fin (tcTables nBuf tb) → BufTy
  | .hbm, ⟨0, _⟩ => ⟨S16x1024x64, .f32⟩
  | .hbm, ⟨1, _⟩ => ⟨S1024x64, .f32⟩
  | .hbm, ⟨2, _⟩ => ⟨S16384x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S64x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S64x1024, .f32⟩
  | .hbm, ⟨15, _⟩ => ⟨S64x1024, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S1, .i32⟩
  | .hbm, ⟨35, _⟩ => ⟨S_, .i32⟩
  | .hbm, ⟨36, _⟩ => ⟨S16384x1, .i32⟩
  | .hbm, ⟨37, _⟩ => ⟨S16384x1, .i1⟩
  | .hbm, ⟨38, _⟩ => ⟨S1x1, .i32⟩
  | .hbm, ⟨39, _⟩ => ⟨S16384x1, .i32⟩
  | .hbm, ⟨40, _⟩ => ⟨S16384x1, .i1⟩
  | .hbm, ⟨41, _⟩ => ⟨S16384x1, .i1⟩
  | .hbm, ⟨42, _⟩ => ⟨S_, .i1⟩
  | .hbm, ⟨43, _⟩ => ⟨S16384, .i1⟩
  | .hbm, ⟨44, _⟩ => ⟨S16384x64, .f32⟩
  | .hbm, ⟨45, _⟩ => ⟨S16384x64, .i1⟩
  | .hbm, ⟨46, _⟩ => ⟨S_, .f32⟩
  | .hbm, ⟨47, _⟩ => ⟨S16384x64, .f32⟩
  | .hbm, ⟨48, _⟩ => ⟨S16384x64, .f32⟩
  | .hbm, ⟨49, _⟩ => ⟨S16x1024x64, .f32⟩
  | .hbm, ⟨50, _⟩ => ⟨S16x1024x64, .f32⟩
  | .hbm, ⟨51, _⟩ => ⟨S16x1024x64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16x1024x64, .f32⟩
  | .hbm, ⟨57, _⟩ => ⟨S16x1024x64, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S16384x1024, .f32⟩
  | .hbm, ⟨66, _⟩ => ⟨S_, .f32⟩
  | .hbm, ⟨67, _⟩ => ⟨S16384, .f32⟩
  | .hbm, ⟨68, _⟩ => ⟨S_, .f32⟩
  | .hbm, ⟨69, _⟩ => ⟨S16384, .f32⟩
  | .hbm, ⟨70, _⟩ => ⟨S16384, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S_, .f32⟩
  | .hbm, ⟨76, _⟩ => ⟨S16384, .f32⟩
  | .hbm, ⟨77, _⟩ => ⟨S16384x1, .f32⟩
  | .hbm, ⟨78, _⟩ => ⟨S16384x1, .f32⟩
  | .hbm, ⟨79, _⟩ => ⟨S16384x1024, .f32⟩
  | .hbm, ⟨80, _⟩ => ⟨S16384x1024, .f32⟩
  | .hbm, ⟨81, _⟩ => ⟨S16384x64, .f32⟩
  | .hbm, ⟨82, _⟩ => ⟨S16x1024x64, .f32⟩
  | .hbm, ⟨83, _⟩ => ⟨S16x1024x64, .f32⟩
  | .hbm, ⟨84, _⟩ => ⟨S_, .f32⟩
  | .hbm, ⟨85, _⟩ => ⟨S16x1024x64, .f32⟩
  | .hbm, ⟨86, _⟩ => ⟨S16x1024x64, .f32⟩
  | .hbm, ⟨87, _⟩ => ⟨S16x1024x64, .f32⟩
  | .hbm, ⟨88, _⟩ => ⟨S16x1024x64, .f32⟩
  | _, _ => ⟨S16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_call2_cst : Ref sig .tc := ⟨.hbm, 66, rfl⟩
abbrev main_call2_v0 : Ref sig .tc := ⟨.hbm, 67, rfl⟩
abbrev main_call2_cst_0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_cst_1 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_cst_7 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩

abbrev nD : Nat := 1
abbrev τ : Topo := Topo.v7x

variable {F : FTy → Type} [FloatOps F]
-- ==== Proof.RefRun.lean ====
/- The reference program's run: its host operations as one list, and the two results as functions of the two
   arguments. The arrays in between carry names: the squared distances, the index of the nearest code, the codes
   looked up, the scores and their logarithmic soft maximum. -/
module

public import proofs.«01_k».proof.Proof.Gen.ReferenceIdeal
public import Idealize.ShloMosaic.Lib.StableHlo.Run

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's operations in order, those of the functions it calls in the calls' places. -/
abbrev ops : List (HloOp τ sig (Elt F)) :=
  [ reshape main_arg0 main_v0 (rfl : (.f32 : EltTy) = .f32) shapeCasts_S16x1024x64_S16384x64,
    binary main_v0 main_v0 main_v1 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v1 main_cst main_v2 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v2 main_v3 (broadcastInDim S16384x1 ![0] bcast_S16384_S16384x1_0 : (⟨S16384, .f32⟩ : BufTy).Contents (Elt F) → (⟨S16384x1, .f32⟩ : BufTy).Contents (Elt F)),
    unary main_arg1 main_v4 ((transpose S64x1024 [1, 0] · transposes_S1024x64_S64x1024_1_0) : (⟨S1024x64, .f32⟩ : BufTy).Contents (Elt F) → (⟨S64x1024, .f32⟩ : BufTy).Contents (Elt F)),
    binary main_v0 main_v4 main_v5 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    nullary main_cst_0 (constant S_ .f32 0x40000000#32),
    unary main_cst_0 main_v6 (broadcastInDim S16384x1024 ![] bcast_S_S16384x1024 : (⟨S_, .f32⟩ : BufTy).Contents (Elt F) → (⟨S16384x1024, .f32⟩ : BufTy).Contents (Elt F)),
    binary main_v6 main_v5 main_v7 (mulf : (⟨S16384x1024, .f32⟩ : BufTy).Contents (Elt F) → (⟨S16384x1024, .f32⟩ : BufTy).Contents (Elt F) → (⟨S16384x1024, .f32⟩ : BufTy).Contents (Elt F)),
    unary main_v3 main_v8 (broadcastInDim S16384x1024 ![0, 1] bcast_S16384x1_S16384x1024_0_1 : (⟨S16384x1, .f32⟩ : BufTy).Contents (Elt F) → (⟨S16384x1024, .f32⟩ : BufTy).Contents (Elt F)),
    binary main_v8 main_v7 main_v9 (subf : (⟨S16384x1024, .f32⟩ : BufTy).Contents (Elt F) → (⟨S16384x1024, .f32⟩ : BufTy).Contents (Elt F) → (⟨S16384x1024, .f32⟩ : BufTy).Contents (Elt F)),
    unary main_arg1 main_v10 ((transpose S64x1024 [1, 0] · transposes_S1024x64_S64x1024_1_0) : (⟨S1024x64, .f32⟩ : BufTy).Contents (Elt F) → (⟨S64x1024, .f32⟩ : BufTy).Contents (Elt F)),
    binary main_v10 main_v10 main_v11 (mulf : (⟨S64x1024, .f32⟩ : BufTy).Contents (Elt F) → (⟨S64x1024, .f32⟩ : BufTy).Contents (Elt F) → (⟨S64x1024, .f32⟩ : BufTy).Contents (Elt F)),
    nullary main_cst_1 (constant S_ .f32 0x00000000#32),
    binary main_v11 main_cst_1 main_v12 ((fun x v => Host.reduceAdd x v reducesTo_S64x1024_S1024_d0 h_S_) : (⟨S64x1024, .f32⟩ : BufTy).Contents (Elt F) → (⟨S_, .f32⟩ : BufTy).Contents (Elt F) → (⟨S1024, .f32⟩ : BufTy).Contents (Elt F)),
    unary main_v12 main_v13 (broadcastInDim S1x1024 ![1] bcast_S1024_S1x1024_1 : (⟨S1024, .f32⟩ : BufTy).Contents (Elt F) → (⟨S1x1024, .f32⟩ : BufTy).Contents (Elt F)),
    unary main_v13 main_v14 (broadcastInDim S16384x1024 ![0, 1] bcast_S1x1024_S16384x1024_0_1 : (⟨S1x1024, .f32⟩ : BufTy).Contents (Elt F) → (⟨S16384x1024, .f32⟩ : BufTy).Contents (Elt F)),
    binary main_v9 main_v14 main_v15 (addf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S16384x1024, .i32⟩) main_call0_v0) (iotaInDim S16384x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16384x1024, .f32⟩) main_v15) (TRef.of (T := ⟨S16384x1024, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmin_f32_i32 x y u v reducesTo_S16384x1024_S16384_d1 h_S_ j).1),
    TRef.quaternary (TRef.of (T := ⟨S16384x1024, .f32⟩) main_v15) (TRef.of (T := ⟨S16384x1024, .i32⟩) main_call0_v0) (TRef.of (T := ⟨S_, .f32⟩) main_call0_cst) (TRef.of (T := ⟨S_, .i32⟩) main_call0_c) (TRef.of (T := ⟨S16384, .i32⟩) main_v16) (fun x y u v j => (Host.argReduce reducer_argmin_f32_i32 x y u v reducesTo_S16384x1024_S16384_d1 h_S_ j).2),
    TRef.nullary (TRef.of (T := ⟨S_, .i32⟩) main_call1_c) (constantI S_ 32 0#32),
    TRef.unary (TRef.of (T := ⟨S_, .i32⟩) main_call1_c) (TRef.of (T := ⟨S16384, .i32⟩) main_call1_v0) (broadcastInDim S16384 ![] bcast_S_S16384),
    TRef.binary (TRef.of (T := ⟨S16384, .i32⟩) main_v16) (TRef.of (T := ⟨S16384, .i32⟩) main_call1_v0) (TRef.of (T := ⟨S16384, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S16384, .i32⟩) main_call1_v2) (broadcastInDim S16384 ![] bcast_S_S16384),
    TRef.binary (TRef.of (T := ⟨S16384, .i32⟩) main_v16) (TRef.of (T := ⟨S16384, .i32⟩) main_call1_v2) (TRef.of (T := ⟨S16384, .i32⟩) main_call1_v3) addi,
    TRef.ternary (TRef.of (T := ⟨S16384, .i1⟩) main_call1_v1) (TRef.of (T := ⟨S16384, .i32⟩) main_call1_v3) (TRef.of (T := ⟨S16384, .i32⟩) main_v16) (TRef.of (T := ⟨S16384, .i32⟩) main_call1_v4) select,
    TRef.unary (TRef.of (T := ⟨S16384, .i32⟩) main_call1_v4) (TRef.of (T := ⟨S16384x1, .i32⟩) main_call1_v5) (broadcastInDim S16384x1 ![0] bcast_S16384_S16384x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S16384x1, .i32⟩) main_call1_v6) (broadcastInDim S16384x1 ![] bcast_S_S16384x1),
    TRef.binary (TRef.of (T := ⟨S16384x1, .i32⟩) main_call1_v5) (TRef.of (T := ⟨S16384x1, .i32⟩) main_call1_v6) (TRef.of (T := ⟨S16384x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S16384x1, .i32⟩) main_call1_v9) (broadcastInDim S16384x1 ![0, 1] bcast_S1x1_S16384x1_0_1),
    TRef.binary (TRef.of (T := ⟨S16384x1, .i32⟩) main_call1_v5) (TRef.of (T := ⟨S16384x1, .i32⟩) main_call1_v9) (TRef.of (T := ⟨S16384x1, .i1⟩) main_call1_v10) (cmpi .sle),
    TRef.binary (TRef.of (T := ⟨S16384x1, .i1⟩) main_call1_v7) (TRef.of (T := ⟨S16384x1, .i1⟩) main_call1_v10) (TRef.of (T := ⟨S16384x1, .i1⟩) main_call1_v11) andi,
    TRef.nullary (TRef.of (T := ⟨S_, .i1⟩) main_call1_c_3) (constantI S_ 1 1#1),
    TRef.binary (TRef.of (T := ⟨S16384x1, .i1⟩) main_call1_v11) (TRef.of (T := ⟨S_, .i1⟩) main_call1_c_3) (TRef.of (T := ⟨S16384, .i1⟩) main_call1_v12) (fun x v => Host.reduce IntOp.andi x v reducesTo_S16384x1_S16384_d1 h_S_),
    TRef.binary (TRef.of (T := ⟨S1024x64, .f32⟩) main_arg1) (TRef.of (T := ⟨S16384x1, .i32⟩) main_call1_v5) (TRef.of (T := ⟨S16384x64, .f32⟩) main_call1_v13) (fun x i => Host.gather gather_S1024x64_S16384x1_S16384x64_1_0_n_n_0_1_164 x i),
    TRef.unary (TRef.of (T := ⟨S16384, .i1⟩) main_call1_v12) (TRef.of (T := ⟨S16384x64, .i1⟩) main_call1_v14) (broadcastInDim S16384x64 ![0] bcast_S16384_S16384x64_0),
    TRef.nullary (TRef.of (T := ⟨S_, .f32⟩) main_call1_cst) (constant S_ .f32 0x7FC00000#32),
    TRef.unary (TRef.of (T := ⟨S_, .f32⟩) main_call1_cst) (TRef.of (T := ⟨S16384x64, .f32⟩) main_call1_v15) (broadcastInDim S16384x64 ![] bcast_S_S16384x64),
    TRef.ternary (TRef.of (T := ⟨S16384x64, .i1⟩) main_call1_v14) (TRef.of (T := ⟨S16384x64, .f32⟩) main_call1_v13) (TRef.of (T := ⟨S16384x64, .f32⟩) main_call1_v15) (TRef.of (T := ⟨S16384x64, .f32⟩) main_v17) select,
    reshape main_v17 main_v18 (rfl : (.f32 : EltTy) = .f32) shapeCasts_S16384x64_S16x1024x64,
    binary main_v18 main_arg0 main_v19 (subf : (⟨S16x1024x64, .f32⟩ : BufTy).Contents (Elt F) → (⟨S16x1024x64, .f32⟩ : BufTy).Contents (Elt F) → (⟨S16x1024x64, .f32⟩ : BufTy).Contents (Elt F)),
    binary main_v19 main_v19 main_v20 (mulf : (⟨S16x1024x64, .f32⟩ : BufTy).Contents (Elt F) → (⟨S16x1024x64, .f32⟩ : BufTy).Contents (Elt F) → (⟨S16x1024x64, .f32⟩ : BufTy).Contents (Elt F)),
    nullary main_cst_2 (constant S_ .f32 0x00000000#32),
    binary main_v20 main_cst_2 main_v21 ((fun x v => Host.reduceAdd x v reducesTo_S16x1024x64_S_d0_1_2 h_S_) : (⟨S16x1024x64, .f32⟩ : BufTy).Contents (Elt F) → (⟨S_, .f32⟩ : BufTy).Contents (Elt F) → (⟨S_, .f32⟩ : BufTy).Contents (Elt F)),
    nullary main_cst_3 (constant S_ .f32 0x49800000#32),
    binary main_v21 main_cst_3 main_v22 (Host.divf : (⟨S_, .f32⟩ : BufTy).Contents (Elt F) → (⟨S_, .f32⟩ : BufTy).Contents (Elt F) → (⟨S_, .f32⟩ : BufTy).Contents (Elt F)),
    binary main_v18 main_arg0 main_v23 (subf : (⟨S16x1024x64, .f32⟩ : BufTy).Contents (Elt F) → (⟨S16x1024x64, .f32⟩ : BufTy).Contents (Elt F) → (⟨S16x1024x64, .f32⟩ : BufTy).Contents (Elt F)),
    binary main_v23 main_v23 main_v24 (mulf : (⟨S16x1024x64, .f32⟩ : BufTy).Contents (Elt F) → (⟨S16x1024x64, .f32⟩ : BufTy).Contents (Elt F) → (⟨S16x1024x64, .f32⟩ : BufTy).Contents (Elt F)),
    nullary main_cst_4 (constant S_ .f32 0x00000000#32),
    binary main_v24 main_cst_4 main_v25 ((fun x v => Host.reduceAdd x v reducesTo_S16x1024x64_S_d0_1_2 h_S_) : (⟨S16x1024x64, .f32⟩ : BufTy).Contents (Elt F) → (⟨S_, .f32⟩ : BufTy).Contents (Elt F) → (⟨S_, .f32⟩ : BufTy).Contents (Elt F)),
    nullary main_cst_5 (constant S_ .f32 0x49800000#32),
    binary main_v25 main_cst_5 main_v26 (Host.divf : (⟨S_, .f32⟩ : BufTy).Contents (Elt F) → (⟨S_, .f32⟩ : BufTy).Contents (Elt F) → (⟨S_, .f32⟩ : BufTy).Contents (Elt F)),
    nullary main_cst_6 (constant S_ .f32 0x3E800000#32),
    binary main_cst_6 main_v22 main_v27 (mulf : (⟨S_, .f32⟩ : BufTy).Contents (Elt F) → (⟨S_, .f32⟩ : BufTy).Contents (Elt F) → (⟨S_, .f32⟩ : BufTy).Contents (Elt F)),
    binary main_v26 main_v27 main_v28 (addf : (⟨S_, .f32⟩ : BufTy).Contents (Elt F) → (⟨S_, .f32⟩ : BufTy).Contents (Elt F) → (⟨S_, .f32⟩ : BufTy).Contents (Elt F)),
    unary main_v15 main_v29 (Host.negf : (⟨S16384x1024, .f32⟩ : BufTy).Contents (Elt F) → (⟨S16384x1024, .f32⟩ : BufTy).Contents (Elt F)),
    TRef.nullary (TRef.of (T := ⟨S_, .f32⟩) main_call2_cst) (constant S_ .f32 0xFF800000#32),
    TRef.binary (TRef.of (T := ⟨S16384x1024, .f32⟩) main_v29) (TRef.of (T := ⟨S_, .f32⟩) main_call2_cst) (TRef.of (T := ⟨S16384, .f32⟩) main_call2_v0) (fun x v => Host.reduce FloatOps.maximumf x v reducesTo_S16384x1024_S16384_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S16384, .f32⟩) main_call2_v1) (broadcastInDim S16384 ![] bcast_S_S16384),
    TRef.binary (TRef.of (T := ⟨S16384, .f32⟩) main_call2_v1) (TRef.of (T := ⟨S16384, .f32⟩) main_call2_v0) (TRef.of (T := ⟨S16384, .f32⟩) main_call2_v2) maximumf,
    TRef.unary (TRef.of (T := ⟨S16384, .f32⟩) main_call2_v2) (TRef.of (T := ⟨S16384x1, .f32⟩) main_call2_v3) (broadcastInDim S16384x1 ![0] bcast_S16384_S16384x1_0),
    TRef.unary (TRef.of (T := ⟨S16384x1, .f32⟩) main_call2_v3) (TRef.of (T := ⟨S16384x1024, .f32⟩) main_call2_v4) (broadcastInDim S16384x1024 ![0, 1] bcast_S16384x1_S16384x1024_0_1),
    TRef.binary (TRef.of (T := ⟨S16384x1024, .f32⟩) main_v29) (TRef.of (T := ⟨S16384x1024, .f32⟩) main_call2_v4) (TRef.of (T := ⟨S16384x1024, .f32⟩) main_call2_v5) subf,
    TRef.unary (TRef.of (T := ⟨S16384x1024, .f32⟩) main_call2_v5) (TRef.of (T := ⟨S16384x1024, .f32⟩) main_call2_v6) Host.exp,
    TRef.nullary (TRef.of (T := ⟨S_, .f32⟩) main_call2_cst_1) (constant S_ .f32 0x00000000#32),
    TRef.binary (TRef.of (T := ⟨S16384x1024, .f32⟩) main_call2_v6) (TRef.of (T := ⟨S_, .f32⟩) main_call2_cst_1) (TRef.of (T := ⟨S16384, .f32⟩) main_call2_v7) (fun x v => Host.reduceAdd x v reducesTo_S16384x1024_S16384_d1 h_S_),
    TRef.unary (TRef.of (T := ⟨S16384, .f32⟩) main_call2_v7) (TRef.of (T := ⟨S16384x1, .f32⟩) main_call2_v8) (broadcastInDim S16384x1 ![0] bcast_S16384_S16384x1_0),
    TRef.unary (TRef.of (T := ⟨S16384x1, .f32⟩) main_call2_v8) (TRef.of (T := ⟨S16384x1, .f32⟩) main_call2_v9) Host.log,
    TRef.unary (TRef.of (T := ⟨S16384x1, .f32⟩) main_call2_v9) (TRef.of (T := ⟨S16384x1024, .f32⟩) main_call2_v10) (broadcastInDim S16384x1024 ![0, 1] bcast_S16384x1_S16384x1024_0_1),
    TRef.binary (TRef.of (T := ⟨S16384x1024, .f32⟩) main_call2_v5) (TRef.of (T := ⟨S16384x1024, .f32⟩) main_call2_v10) (TRef.of (T := ⟨S16384x1024, .f32⟩) main_v30) subf,
    binary main_v30 main_arg1 main_v31 ((fun l r => Host.dotGeneral dot_S16384x1024_S1024x64_S16384x64_1_0_0_1_n_n none l r) : (⟨S16384x1024, .f32⟩ : BufTy).Contents (Elt F) → (⟨S1024x64, .f32⟩ : BufTy).Contents (Elt F) → (⟨S16384x64, .f32⟩ : BufTy).Contents (Elt F)),
    reshape main_v31 main_v32 (rfl : (.f32 : EltTy) = .f32) shapeCasts_S16384x64_S16x1024x64,
    binary main_v32 main_v18 main_v33 (addf : (⟨S16x1024x64, .f32⟩ : BufTy).Contents (Elt F) → (⟨S16x1024x64, .f32⟩ : BufTy).Contents (Elt F) → (⟨S16x1024x64, .f32⟩ : BufTy).Contents (Elt F)),
    nullary main_cst_7 (constant S_ .f32 0x40000000#32),
    unary main_cst_7 main_v34 (broadcastInDim S16x1024x64 ![] bcast_S_S16x1024x64 : (⟨S_, .f32⟩ : BufTy).Contents (Elt F) → (⟨S16x1024x64, .f32⟩ : BufTy).Contents (Elt F)),
    binary main_v33 main_v34 main_v35 (Host.divf : (⟨S16x1024x64, .f32⟩ : BufTy).Contents (Elt F) → (⟨S16x1024x64, .f32⟩ : BufTy).Contents (Elt F) → (⟨S16x1024x64, .f32⟩ : BufTy).Contents (Elt F)),
    binary main_v35 main_arg0 main_v36 (subf : (⟨S16x1024x64, .f32⟩ : BufTy).Contents (Elt F) → (⟨S16x1024x64, .f32⟩ : BufTy).Contents (Elt F) → (⟨S16x1024x64, .f32⟩ : BufTy).Contents (Elt F)),
    binary main_arg0 main_v36 main_v37 (addf : (⟨S16x1024x64, .f32⟩ : BufTy).Contents (Elt F) → (⟨S16x1024x64, .f32⟩ : BufTy).Contents (Elt F) → (⟨S16x1024x64, .f32⟩ : BufTy).Contents (Elt F)) ]

set_option maxRecDepth 8192 in
set_option maxHeartbeats 4000000 in
/-- The reference's entry function is its operations one after another. -/
theorem main_eq (c : Dev nD) : main (F := F) c = seq ops := rfl

/-- The reference has no scoped buffer. -/
theorem no_scoped_refs : (Finset.univ.filter fun b : Ref sig .tc => b.isScoped) = ∅ := by decide

/-- The reference has no scoped semaphore. -/
theorem no_scoped_sems : (Finset.univ.filter fun sm : SemLoc sig => sm.isScoped .tc) = ∅ := by decide

set_option maxRecDepth 8192 in
/-- Every operation touches the core's own buffers only. -/
theorem ops_sub : (ops : List (HloOp τ sig (Elt F))).Forall fun op => op.bufs ⊆ tcRefs τ sig :=
  ⟨reshape_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., reshape_bufs_sub .., binary_bufs_sub .., nullary_bufs_sub .., unary_bufs_sub .., binary_bufs_sub .., binary_bufs_sub .., binary_bufs_sub ..⟩

/-! ## The arrays between arguments and results -/

/-- The tokens as rows. -/
def rows (x : FVec F S16x1024x64 .f32) : FVec F S16384x64 .f32 :=
  shapeCast S16384x64 x shapeCasts_S16x1024x64_S16384x64

/-- The codes as columns. -/
def wt (w : FVec F S1024x64 .f32) : FVec F S64x1024 .f32 :=
  transpose S64x1024 [1, 0] w transposes_S1024x64_S64x1024_1_0

/-- The squared distance of each token from each code, by the expanded square. -/
def dist (x : FVec F S16x1024x64 .f32) (w : FVec F S1024x64 .f32) : FVec F S16384x1024 .f32 :=
  addf (subf (broadcastInDim S16384x1024 ![0, 1] bcast_S16384x1_S16384x1024_0_1 (broadcastInDim S16384x1 ![0] bcast_S16384_S16384x1_0 (Host.reduceAdd (mulf (rows x) (rows x)) (constant S_ .f32 0x00000000#32) reducesTo_S16384x64_S16384_d1 h_S_))) (mulf (broadcastInDim S16384x1024 ![] bcast_S_S16384x1024 (constant S_ .f32 0x40000000#32)) (Host.dotGeneral dot_S16384x64_S64x1024_S16384x1024_1_0_0_1_n_n none (rows x) (transpose S64x1024 [1, 0] w transposes_S1024x64_S64x1024_1_0)))) (broadcastInDim S16384x1024 ![0, 1] bcast_S1x1024_S16384x1024_0_1 (broadcastInDim S1x1024 ![1] bcast_S1024_S1x1024_1 (Host.reduceAdd (mulf (wt w) (wt w)) (constant S_ .f32 0x00000000#32) reducesTo_S64x1024_S1024_d0 h_S_)))

/-- The index of each token's nearest code. -/
def nearest (x : FVec F S16x1024x64 .f32) (w : FVec F S1024x64 .f32) : IVec S16384 32 :=
  fun j => (Host.argReduce reducer_argmin_f32_i32 (dist x w) (iotaInDim S16384x1024 32 1) (constant S_ .f32 0x7F800000#32) (constantI S_ 32 0#32) reducesTo_S16384x1024_S16384_d1 h_S_ j).2

/-- The index looked up: a negative one counts from the end. -/
def codeIdx (x : FVec F S16x1024x64 .f32) (w : FVec F S1024x64 .f32) : IVec S16384x1 32 :=
  broadcastInDim S16384x1 ![0] bcast_S16384_S16384x1_0 (select (cmpi .slt (nearest x w) (broadcastInDim S16384 ![] bcast_S_S16384 (constantI S_ 32 0#32))) (addi (nearest x w) (broadcastInDim S16384 ![] bcast_S_S16384 (constantI S_ 32 1024#32))) (nearest x w))

/-- The nearest codes, in the tokens' shape. -/
def quant (x : FVec F S16x1024x64 .f32) (w : FVec F S1024x64 .f32) : FVec F S16x1024x64 .f32 :=
  shapeCast S16x1024x64 (select (broadcastInDim S16384x64 ![0] bcast_S16384_S16384x64_0 (Host.reduce IntOp.andi (andi (cmpi .sge (codeIdx x w) (broadcastInDim S16384x1 ![] bcast_S_S16384x1 (constantI S_ 32 0#32))) (cmpi .sle (codeIdx x w) (broadcastInDim S16384x1 ![0, 1] bcast_S1x1_S16384x1_0_1 (broadcastInDim S1x1 ![1] bcast_S1_S1x1_1 (constantI S1 32 1023#32))))) (constantI S_ 1 1#1) reducesTo_S16384x1_S16384_d1 h_S_)) (Host.gather gather_S1024x64_S16384x1_S16384x64_1_0_n_n_0_1_164 w (codeIdx x w)) (broadcastInDim S16384x64 ![] bcast_S_S16384x64 (constant S_ .f32 0x7FC00000#32))) shapeCasts_S16384x64_S16x1024x64

/-- Nearest code less token. -/
def gap (x : FVec F S16x1024x64 .f32) (w : FVec F S1024x64 .f32) : FVec F S16x1024x64 .f32 :=
  subf (quant x w) x

/-- The scores: the distances negated. -/
def score (x : FVec F S16x1024x64 .f32) (w : FVec F S1024x64 .f32) : FVec F S16384x1024 .f32 :=
  Host.negf (dist x w)

/-- The scores less their row's greatest. -/
def shifted (x : FVec F S16x1024x64 .f32) (w : FVec F S1024x64 .f32) : FVec F S16384x1024 .f32 :=
  subf (score x w) (broadcastInDim S16384x1024 ![0, 1] bcast_S16384x1_S16384x1024_0_1 (broadcastInDim S16384x1 ![0] bcast_S16384_S16384x1_0 (maximumf (broadcastInDim S16384 ![] bcast_S_S16384 (constant S_ .f32 0xFF800000#32)) (Host.reduce FloatOps.maximumf (score x w) (constant S_ .f32 0xFF800000#32) reducesTo_S16384x1024_S16384_d1 h_S_))))

/-- The codes weighted by the logarithmic soft maximum of the scores. -/
def weighted (x : FVec F S16x1024x64 .f32) (w : FVec F S1024x64 .f32) : FVec F S16384x64 .f32 :=
  Host.dotGeneral dot_S16384x1024_S1024x64_S16384x64_1_0_0_1_n_n none (subf (shifted x w) (broadcastInDim S16384x1024 ![0, 1] bcast_S16384x1_S16384x1024_0_1 (Host.log (broadcastInDim S16384x1 ![0] bcast_S16384_S16384x1_0 (Host.reduceAdd (Host.exp (shifted x w)) (constant S_ .f32 0x00000000#32) reducesTo_S16384x1024_S16384_d1 h_S_))))) w

/-- The reference's first result. -/
def out (x : FVec F S16x1024x64 .f32) (w : FVec F S1024x64 .f32) : FVec F S16x1024x64 .f32 :=
  addf x (subf (Host.divf (addf (shapeCast S16x1024x64 (weighted x w) shapeCasts_S16384x64_S16x1024x64) (quant x w)) (broadcastInDim S16x1024x64 ![] bcast_S_S16x1024x64 (constant S_ .f32 0x40000000#32))) x)

/-- The reference's second result. -/
def loss (x : FVec F S16x1024x64 .f32) (w : FVec F S1024x64 .f32) : FVec F S_ .f32 :=
  addf (Host.divf (Host.reduceAdd (mulf (gap x w) (gap x w)) (constant S_ .f32 0x00000000#32) reducesTo_S16x1024x64_S_d0_1_2 h_S_) (constant S_ .f32 0x49800000#32)) (mulf (constant S_ .f32 0x3E800000#32) (Host.divf (Host.reduceAdd (mulf (gap x w) (gap x w)) (constant S_ .f32 0x00000000#32) reducesTo_S16x1024x64_S_d0_1_2 h_S_) (constant S_ .f32 0x49800000#32)))

set_option maxRecDepth 8192 in
set_option maxHeartbeats 37600000 in
/-- The reference runs on every device from every memory: its two results end at `out` and `loss` of its arguments,
    which end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37) = out (m ((c.tc : Thread nD τ).loc main_arg0)) (m ((c.tc : Thread nD τ).loc main_arg1))
      ∧ r.2.mem ((c.tc : Thread nD τ).loc main_v28) = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v37).trans (by simp only [ops, TRef.binary, TRef.nullary, TRef.ternary, TRef.quaternary, TRef.unary, TRef.toBuf, TRef.ofBuf, cast_eq]; after_results_simp <;> rfl),
      (h c main_v28).trans (by simp only [ops, TRef.binary, TRef.nullary, TRef.ternary, TRef.quaternary, TRef.unary, TRef.toBuf, TRef.ofBuf, cast_eq]; after_results_simp <;> rfl),
      (h c main_arg0).trans (by simp only [ops, TRef.binary, TRef.nullary, TRef.ternary, TRef.quaternary, TRef.unary, TRef.toBuf, TRef.ofBuf, cast_eq]; after_results_simp <;> rfl),
      (h c main_arg1).trans (by simp only [ops, TRef.binary, TRef.nullary, TRef.ternary, TRef.quaternary, TRef.unary, TRef.toBuf, TRef.ofBuf, cast_eq]; after_results_simp <;> rfl)⟩)
    (run_seq no_scoped_refs no_scoped_sems defs main (fun _ => ops) main_eq (fun _ => ops_sub) m ρ)

end Cert.RefRun

end
-- ==== Proof.Argmin.lean ====
/- What the reference's arg-min finds: an index at which the row is least. -/
module

public import proofs.«01_k».proof.Proof.Gen.ReferenceIdeal
public import Idealize.ShloMosaic.PureOps.Reduce
public import Idealize.ShloMosaic.PureOps.Ideal.Laws
public import Idealize.ShloMosaic.Lib.Pointwise

@[expose] public section

noncomputable section

namespace Cert.Argmin

open Cert.ReferenceIdeal Idealize.ShloMosaic

/-- The arg-min's step keeps one of its two pairs, one whose value is at most the other's. -/
theorem step (a b : Ideal .f32 × BitVec 32) :
    (reducer_argmin_f32_i32 a b = a ∨ reducer_argmin_f32_i32 a b = b)
      ∧ (reducer_argmin_f32_i32 a b).1 ≤ a.1 ∧ (reducer_argmin_f32_i32 a b).1 ≤ b.1 := by
  obtain ⟨a1, a2⟩ := a
  obtain ⟨b1, b2⟩ := b
  have key : reducer_argmin_f32_i32 (F := Ideal) (a1, a2) (b1, b2)
      = (if a1 < b1 then a1 else b1, if a1 < b1 ∨ (a1 = b1 ∧ a2.slt b2) then a2 else b2) := by
    unfold reducer_argmin_f32_i32
    by_cases h : (a1 : EReal) < b1
    · have e : ¬(a1 : EReal) = b1 := h.ne
      simp [FloatOps.cmpf, Ideal.cmp, IntOp.ori, IntOp.andi, IntOp.cmpi, Scalar.select, h, e]
    · by_cases e : (a1 : EReal) = b1
      · cases s : a2.slt b2 <;> simp [FloatOps.cmpf, Ideal.cmp, IntOp.ori, IntOp.andi, IntOp.cmpi, Scalar.select, h, e, s]
      · simp [FloatOps.cmpf, Ideal.cmp, IntOp.ori, IntOp.andi, IntOp.cmpi, Scalar.select, h, e]
  rw [key]
  by_cases h : (a1 : EReal) < b1
  · rw [if_pos h, if_pos (.inl h)]
    exact ⟨.inl rfl, le_refl _, h.le⟩
  · have le : (b1 : EReal) ≤ a1 := not_lt.1 h
    simp only [h, if_false, false_or]
    by_cases e : a1 = b1 ∧ a2.slt b2 = true
    · rw [if_pos e, e.1]
      exact ⟨.inl rfl, le_refl _, le_refl _⟩
    · rw [if_neg e]
      exact ⟨.inr rfl, le, le_refl _⟩

/-- The fold of the steps is the first pair or one of the list, and its value is at most each of theirs. -/
theorem fold (L : List (Ideal .f32 × BitVec 32)) : ∀ s : Ideal .f32 × BitVec 32,
    (L.foldl reducer_argmin_f32_i32 s = s ∨ L.foldl reducer_argmin_f32_i32 s ∈ L)
      ∧ (L.foldl reducer_argmin_f32_i32 s).1 ≤ s.1 ∧ ∀ q ∈ L, (L.foldl reducer_argmin_f32_i32 s).1 ≤ q.1 := by
  induction L with
  | nil => exact fun s => ⟨.inl rfl, le_refl _, fun _ h => nomatch h⟩
  | cons b L ih =>
    intro s
    obtain ⟨m, l, r⟩ := ih (reducer_argmin_f32_i32 s b)
    obtain ⟨c, ls, lb⟩ := step s b
    rw [List.foldl_cons]
    refine ⟨?_, l.trans ls, fun q hq => ?_⟩
    · rcases m with m | m
      · rcases c with c | c
        · exact .inl (m.trans c)
        · exact .inr (by rw [m, c]; exact List.mem_cons_self)
      · exact .inr (List.mem_cons_of_mem _ m)
    · rcases List.mem_cons.1 hq with rfl | hq
      · exact l.trans lb
      · exact r q hq

/-- On a row of reals the arg-min over the columns' numbers is a column where the row is least. -/
theorem row {M N : ℕ} [NeZero N] (D : FVec Ideal ⟨2, ![M, N]⟩ .f32) (h : (⟨2, ![M, N]⟩ : Shape).ReducesTo [1] ⟨1, ![M]⟩)
    (init : S_.Idx → Ideal .f32) (start : S_.Idx → BitVec 32) (hu : 0 < S_.numel) (top : init (Shape.Idx.first hu) = (⊤ : EReal))
    (n : Fin M) (d : Fin N → ℝ) (hd : ∀ k, D (ix2 n k) = (d k : EReal)) :
    ∃ p : Fin N, (Host.argReduce reducer_argmin_f32_i32 D (iotaInDim ⟨2, ![M, N]⟩ 32 1) init start h hu (ix1 n)).2 = BitVec.ofNat 32 p
      ∧ ∀ k, d p ≤ d k := by
  rw [Ideal.argReduce_eq_reduce2, Host.reduce2_eq_foldl_fiber]
  have mem : ∀ q, q ∈ Host.argReduceFiber D (iotaInDim ⟨2, ![M, N]⟩ 32 1) h (ix1 n)
      ↔ ∃ k : Fin N, q = (D (ix2 n k), BitVec.ofNat 32 k) := by
    intro q
    unfold Host.argReduceFiber
    simp only [List.mem_map, List.mem_filter, List.mem_finRange, true_and, decide_eq_true_eq]
    constructor
    · rintro ⟨i, hi, rfl⟩
      obtain ⟨k, hk⟩ := (h.fiber_r2_a1 _ _).1 hi
      exact ⟨k, by rw [← hk]; rfl⟩
    · rintro ⟨k, rfl⟩
      refine ⟨(⟨2, ![M, N]⟩ : Shape).rowMajor (ix2 n k), ?_, ?_⟩
      · rw [Equiv.symm_apply_apply]
        exact (h.fiber_r2_a1 _ _).2 ⟨k, rfl⟩
      · rw [Equiv.symm_apply_apply]
        rfl
  obtain ⟨m, -, r⟩ := fold (Host.argReduceFiber D (iotaInDim ⟨2, ![M, N]⟩ 32 1) h (ix1 n)) (init (Shape.Idx.first hu), start (Shape.Idx.first hu))
  generalize List.foldl _ _ _ = z at m r ⊢
  have below : ∀ k, z.1 ≤ (d k : EReal) := fun k => by
    have := r _ ((mem _).2 ⟨k, rfl⟩)
    rwa [hd] at this
  rcases m with m | m
  · exfalso
    have := below 0
    rw [m, top, top_le_iff] at this
    exact EReal.coe_ne_top _ this
  · obtain ⟨p, rfl⟩ := (mem _).1 m
    refine ⟨p, rfl, fun k => ?_⟩
    have := below k
    rw [hd] at this
    exact EReal.coe_le_coe_iff.1 this

end Cert.Argmin
-- ==== Proof.Reals.lean ====
/- Real numbers among the extended reals: sums, greatest and least values, the constants, and the operations the two
   programs apply to finite numbers. -/
module

public import Idealize.ShloMosaic.Lib.IdealHost

@[expose] public section

noncomputable section

namespace Cert.Reals

open Idealize.ShloMosaic

/-- A sum of reals is the real sum. -/
theorem sum_coe {ι : Type*} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- The running maximum from minus infinity is the greatest of the reals. -/
theorem fold_max_coe {ι : Type*} (s : Finset ι) (hs : s.Nonempty) (f : ι → ℝ) :
    s.fold max ⊥ (fun i => (f i : EReal)) = ((s.sup' hs f : ℝ) : EReal) := by
  apply le_antisymm
  · rw [Finset.fold_max_le]
    exact ⟨bot_le, fun i hi => EReal.coe_le_coe_iff.mpr (Finset.le_sup' f hi)⟩
  · obtain ⟨i, hi, e⟩ := Finset.exists_mem_eq_sup' hs f
    rw [Finset.le_fold_max, e]
    exact Or.inr ⟨i, hi, le_rfl⟩

/-- The running minimum from plus infinity is the least of the reals. -/
theorem fold_min_coe {ι : Type*} (s : Finset ι) (hs : s.Nonempty) (f : ι → ℝ) :
    s.fold min ⊤ (fun i => (f i : EReal)) = ((s.inf' hs f : ℝ) : EReal) := by
  apply le_antisymm
  · obtain ⟨i, hi, e⟩ := Finset.exists_mem_eq_inf' hs f
    rw [Finset.fold_min_le, e]
    exact Or.inr ⟨i, hi, le_rfl⟩
  · rw [Finset.le_fold_min]
    exact ⟨le_top, fun i hi => EReal.coe_le_coe_iff.mpr (Finset.inf'_le f hi)⟩

/-- The word of one half. -/
theorem ofBits_half : Ideal.ofBits FTy.f32 0x3F000000#32 = ((1 / 2 : ℝ) : EReal) := by
  simp [Ideal.ofBits, Ideal.ieee, -EReal.coe_mul]; norm_num

/-- The word of two. -/
theorem ofBits_two : Ideal.ofBits FTy.f32 0x40000000#32 = ((2 : ℝ) : EReal) := by
  simp [Ideal.ofBits, Ideal.ieee, -EReal.coe_mul]; norm_num

/-- The word of one quarter. -/
theorem ofBits_quarter : Ideal.ofBits FTy.f32 0x3E800000#32 = ((1 / 4 : ℝ) : EReal) := by
  simp [Ideal.ofBits, Ideal.ieee, -EReal.coe_mul]; norm_num

/-- The word of the number of output elements. -/
theorem ofBits_count : Ideal.ofBits FTy.f32 0x49800000#32 = ((1048576 : ℝ) : EReal) := by
  simp [Ideal.ofBits, Ideal.ieee, -EReal.coe_mul]; norm_num

/-- The word of five quarters over the number of output elements. -/
theorem ofBits_scale : Ideal.ofBits FTy.f32 0x35A00000#32 = ((5 / 4 / 1048576 : ℝ) : EReal) := by
  simp [Ideal.ofBits, Ideal.ieee, -EReal.coe_mul]; norm_num

/-- The word of plus infinity. -/
theorem ofBits_top : Ideal.ofBits FTy.f32 0x7F800000#32 = ⊤ := by
  simp [Ideal.ofBits, Ideal.ieee]

/-- The word of minus infinity. -/
theorem ofBits_bot : Ideal.ofBits FTy.f32 0xFF800000#32 = ⊥ := by
  simp [Ideal.ofBits, Ideal.ieee]

/-- The logarithm of a positive real. -/
theorem log_coe_pos (r : ℝ) (h : 0 < r) : Ideal.log (r : EReal) = (Real.log r : EReal) := by
  rw [Ideal.log_coe, if_neg (not_le.mpr h)]

/-- The logarithm of a sum of exponentials of reals. -/
theorem log_sum_exp (f : Fin 1024 → ℝ) :
    Ideal.log (∑ k, Ideal.exp (f k : EReal)) = ((Real.log (∑ k, Real.exp (f k)) : ℝ) : EReal) := by
  simp only [Ideal.exp_coe]
  rw [sum_coe, log_coe_pos]
  exact Finset.sum_pos (fun k _ => Real.exp_pos _) ⟨0, Finset.mem_univ _⟩

/-- A truth value as a number. -/
theorem indicator (p : Prop) [Decidable p] :
    (FloatOps.sitofp FTy.f32 (BitVec.setWidth 32 (BitVec.ofBool (decide p))) : Ideal FTy.f32) = (((if p then 1 else 0 : ℝ)) : EReal) := by
  show (((BitVec.setWidth 32 (BitVec.ofBool (decide p))).toInt : ℝ) : EReal) = _
  by_cases h : p <;> simp [h]

end Cert.Reals

end
-- ==== Proof.Tokens.lean ====
/- The tokens' two shapes: an array of rows, and the same array with the rows numbered by two coordinates. -/
module

public import proofs.«01_k».proof.Proof.Reals
public import Idealize.ShloMosaic.Lib.Pointwise

@[expose] public section

noncomputable section

namespace Cert.Tokens

open Idealize.ShloMosaic

/-- The row of an index into the tokens' own shape. -/
def row (i : (⟨3, ![16, 1024, 64]⟩ : Shape).Idx) : Fin 16384 :=
  ⟨(i 0).val * 1024 + (i 1).val, by
    have h0 : (i 0).val < 16 := (i 0).isLt
    have h1 : (i 1).val < 1024 := (i 1).isLt
    omega⟩

/-- The column of an index into the tokens' own shape. -/
def col (i : (⟨3, ![16, 1024, 64]⟩ : Shape).Idx) : Fin 64 := i 2

/-- Rows put into the tokens' own shape, read at an index. -/
theorem cast_apply {α : Type} (Y : (⟨2, ![16384, 64]⟩ : Shape).Idx → α) (h : (⟨2, ![16384, 64]⟩ : Shape).ShapeCasts ⟨3, ![16, 1024, 64]⟩)
    (i : (⟨3, ![16, 1024, 64]⟩ : Shape).Idx) : shapeCast ⟨3, ![16, 1024, 64]⟩ Y h i = Y (ix2 (row i) (col i)) := by
  pointwise [row, col]

/-- Tokens read at an index are their rows read at the index's row. -/
theorem rows_apply {α : Type} (x : (⟨3, ![16, 1024, 64]⟩ : Shape).Idx → α) (h : (⟨3, ![16, 1024, 64]⟩ : Shape).ShapeCasts ⟨2, ![16384, 64]⟩)
    (h' : (⟨2, ![16384, 64]⟩ : Shape).ShapeCasts ⟨3, ![16, 1024, 64]⟩)
    (i : (⟨3, ![16, 1024, 64]⟩ : Shape).Idx) : x i = shapeCast ⟨2, ![16384, 64]⟩ x h (ix2 (row i) (col i)) := by
  rw [← cast_apply (shapeCast ⟨2, ![16384, 64]⟩ x h) h' i, shapeCast_shapeCast]

/-- A sum over numbers given by quotient and remainder is the sum over the numbers. -/
theorem sum_split {m n N : ℕ} (hN : m * n = N) (f : Fin N → ℝ) (g : Fin m → Fin n → ℝ)
    (h : ∀ (a : Fin m) (b : Fin n) (c : Fin N), c.val = a.val * n + b.val → g a b = f c) : ∑ a, ∑ b, g a b = ∑ c, f c := by
  subst hN
  rw [← Fintype.sum_prod_type']
  refine Fintype.sum_equiv finProdFinEquiv _ _ fun q => h _ _ _ ?_
  show q.2.val + n * q.1.val = _
  rw [mul_comm, add_comm]

end Cert.Tokens
-- ==== Proof.Rows.lean ====
/- One token against the codes, over the real numbers: what the kernel computes for a token, what the reference
   computes for it, and why they agree. No program is mentioned here. -/
module

public import Mathlib.Analysis.SpecialFunctions.Log.Basic

@[expose] public section

noncomputable section

namespace Cert.Rows

variable (a : Fin 64 → ℝ) (W : Fin 1024 → Fin 64 → ℝ)

/-- The token's square. -/
def sq : ℝ := ∑ j, a j * a j

/-- The token's score for a code: twice the inner product less the code's square. -/
def score (k : Fin 1024) : ℝ := (∑ j, (a j + a j) * W k j) - ∑ j, W k j * W k j

/-- The greatest score. -/
def best : ℝ := Finset.univ.sup' ⟨0, Finset.mem_univ _⟩ (score a W)

/-- The squared distance of the token from a code, by the expanded square. -/
def dist (k : Fin 1024) : ℝ := ((∑ j, a j * a j) - 2 * ∑ j, a j * W k j) + ∑ j, W k j * W k j

/-- The least distance. -/
def least : ℝ := Finset.univ.inf' ⟨0, Finset.mem_univ _⟩ (dist a W)

/-- The kernel's output for the token, in the kernel's own order. -/
def kernelOut (l : Fin 64) : ℝ :=
  ((∑ j, (a j + a j) * ∑ k, W k j * (W k l * (1 / 2))) - ∑ k, (∑ j, W k j * W k j) * (W k l * (1 / 2)))
    + ((∑ k, (if score a W k = best a W then 1 else 0) * (W k l * (1 / 2)))
      - Real.log (∑ k, Real.exp (score a W k)) * ∑ k, W k l * (1 / 2))

/-- A distance negated less the greatest of them. -/
def shifted (k : Fin 1024) : ℝ :=
  -dist a W k - Finset.univ.sup' ⟨0, Finset.mem_univ _⟩ (fun k => -dist a W k)

/-- The codes weighted by the logarithmic soft maximum of the distances negated. -/
def weighted (l : Fin 64) : ℝ :=
  ∑ k, (shifted a W k - Real.log (∑ k, Real.exp (shifted a W k))) * W k l

/-- The distance is the token's square less the score. -/
theorem dist_eq (k : Fin 1024) : dist a W k = sq a - score a W k := by
  have h : ∑ j, (a j + a j) * W k j = 2 * ∑ j, a j * W k j := by
    rw [Finset.mul_sum]; exact Finset.sum_congr rfl fun j _ => by ring
  unfold dist sq score; rw [h]; ring

/-- No score exceeds the greatest. -/
theorem score_le_best (k : Fin 1024) : score a W k ≤ best a W := Finset.le_sup' (score a W) (Finset.mem_univ k)

/-- The least distance is the token's square less the greatest score. -/
theorem least_eq : least a W = sq a - best a W := by
  apply le_antisymm
  · obtain ⟨k, -, hk⟩ := Finset.exists_mem_eq_sup' ⟨(0 : Fin 1024), Finset.mem_univ _⟩ (score a W)
    have h : least a W ≤ dist a W k := Finset.inf'_le _ (Finset.mem_univ k)
    rw [dist_eq] at h
    unfold best; rw [hk]; exact h
  · refine Finset.le_inf' _ _ fun k _ => ?_
    rw [dist_eq]; linarith [score_le_best a W k]

/-- A code's distance is the least exactly if its score is the greatest. -/
theorem dist_eq_least (k : Fin 1024) : dist a W k = least a W ↔ score a W k = best a W := by
  rw [least_eq, dist_eq]; constructor <;> intro h <;> linarith

/-- The squared difference of a code and the token, summed, is the code's distance. -/
theorem gap_eq (p : Fin 1024) : ∑ j, (W p j - a j) * (W p j - a j) = dist a W p := by
  unfold dist
  rw [Finset.mul_sum, ← Finset.sum_sub_distrib, ← Finset.sum_add_distrib]
  exact Finset.sum_congr rfl fun j _ => by ring

/-- Subtracting one number from every score before the logarithmic soft maximum changes nothing. -/
theorem log_sum_exp_sub (s : Fin 1024 → ℝ) (c : ℝ) :
    Real.log (∑ k, Real.exp (s k - c)) = Real.log (∑ k, Real.exp (s k)) - c := by
  have h : ∑ k, Real.exp (s k - c) = (∑ k, Real.exp (s k)) * Real.exp (-c) := by
    rw [Finset.sum_mul]; exact Finset.sum_congr rfl fun k _ => by rw [← Real.exp_add, sub_eq_add_neg]
  have hpos : (0 : ℝ) < ∑ k, Real.exp (s k) :=
    Finset.sum_pos (fun k _ => Real.exp_pos _) ⟨0, Finset.mem_univ _⟩
  rw [h, Real.log_mul hpos.ne' (Real.exp_pos _).ne', Real.log_exp, sub_eq_add_neg]

/-- The weights are the scores less the logarithm of the summed exponentials of the scores. -/
theorem weight_eq (k : Fin 1024) :
    shifted a W k - Real.log (∑ k, Real.exp (shifted a W k))
      = score a W k - Real.log (∑ k, Real.exp (score a W k)) := by
  obtain ⟨c, hc⟩ : ∃ c, ∀ k, shifted a W k = score a W k - c := by
    refine ⟨sq a + Finset.univ.sup' ⟨0, Finset.mem_univ _⟩ (fun k => -dist a W k), fun k => ?_⟩
    unfold shifted; rw [dist_eq]; ring
  simp only [hc]
  rw [log_sum_exp_sub]; ring

/-- The kernel's product with the codes' second moments is the product of the scores with the codes, halved. -/
theorem core_eq (l : Fin 64) :
    (∑ j, (a j + a j) * ∑ k, W k j * (W k l * (1 / 2))) - ∑ k, (∑ j, W k j * W k j) * (W k l * (1 / 2))
      = (∑ k, score a W k * W k l) / 2 := by
  have h : ∑ j, (a j + a j) * ∑ k, W k j * (W k l * (1 / 2))
      = ∑ k, (∑ j, (a j + a j) * W k j) * (W k l * (1 / 2)) := by
    simp only [Finset.mul_sum, Finset.sum_mul]
    rw [Finset.sum_comm]
    exact Finset.sum_congr rfl fun k _ => Finset.sum_congr rfl fun j _ => by ring
  have half : ∀ s : ℝ, s / 2 = s * (1 / 2) := fun s => by ring
  rw [h, ← Finset.sum_sub_distrib, half (∑ k, score a W k * W k l), Finset.sum_mul]
  exact Finset.sum_congr rfl fun k _ => by unfold score; ring

/-- Where one code alone has the greatest score, the kernel's choice of codes is that code, halved. -/
theorem choice_eq (p : Fin 1024) (hp : score a W p = best a W) (hu : ∀ k, score a W k = best a W → k = p) (l : Fin 64) :
    ∑ k, (if score a W k = best a W then 1 else 0) * (W k l * (1 / 2)) = W p l / 2 := by
  rw [Finset.sum_eq_single p]
  · rw [if_pos hp]; ring
  · intro k _ hk
    rw [if_neg fun h => hk (hu k h), zero_mul]
  · intro h; exact absurd (Finset.mem_univ p) h

/-- Where one code alone is nearest, the kernel's output is the reference's. -/
theorem kernelOut_eq (p : Fin 1024) (hp : score a W p = best a W) (hu : ∀ k, score a W k = best a W → k = p) (l : Fin 64) :
    kernelOut a W l = a l + ((weighted a W l + W p l) / 2 - a l) := by
  unfold kernelOut weighted
  simp only [weight_eq]
  rw [core_eq, choice_eq a W p hp hu]
  have h : ∑ k, (score a W k - Real.log (∑ k, Real.exp (score a W k))) * W k l
      = (∑ k, score a W k * W k l) - Real.log (∑ k, Real.exp (score a W k)) * ∑ k, W k l := by
    rw [Finset.mul_sum, ← Finset.sum_sub_distrib]
    exact Finset.sum_congr rfl fun k _ => by ring
  rw [h, ← Finset.sum_mul]; ring

end Cert.Rows

end
-- ==== Proof.RefValue.lean ====
/- What the reference computes on reals. -/
module

public import proofs.«01_k».proof.Proof.RefRun
public import proofs.«01_k».proof.Proof.Argmin
public import proofs.«01_k».proof.Proof.Tokens
public import proofs.«01_k».proof.Proof.Rows
public import Idealize.ShloMosaic.Lib.ReduceAll
public import Idealize.ShloMosaic.Lib.Routing.Ops
public import Idealize.ShloMosaic.Lib.Pointwise

@[expose] public section

noncomputable section

namespace Cert.RefValue

open Cert.ReferenceIdeal Cert.ReferenceIdeal.Gen Idealize.ShloMosaic

/-- An array reduced along its columns is each row's fold. -/
theorem reduce_row {M N : ℕ} {α : Type} (op : α → α → α) [Std.Commutative op] [Std.Associative op] (X : (⟨2, ![M, N]⟩ : Shape).Idx → α)
    (init : S_.Idx → α) (h : (⟨2, ![M, N]⟩ : Shape).ReducesTo [1] ⟨1, ![M]⟩) (hu : 0 < S_.numel) (n : Fin M) :
    Host.reduce op X init h hu (ix1 n) = Finset.univ.fold op (init (Shape.Idx.first hu)) fun k : Fin N => X (ix2 n k) := by
  rw [Host.reduce_eq_fold, h.fold_fiber_r2_a1]
  rfl

/-- A row's greatest entry, as the reference folds it. -/
theorem reduce_max_row {M N : ℕ} (X : FVec Ideal ⟨2, ![M, N]⟩ .f32) (h : (⟨2, ![M, N]⟩ : Shape).ReducesTo [1] ⟨1, ![M]⟩)
    (hu : 0 < S_.numel) (n : Fin M) :
    Host.reduce FloatOps.maximumf X (constant (F := Ideal) S_ .f32 0xFF800000#32) h hu (ix1 n)
      = Finset.univ.fold max ⊥ fun k : Fin N => X (ix2 n k) := by
  rw [reduce_row, ← Reals.ofBits_bot]
  rfl

variable (x : FVec Ideal S16x1024x64 .f32) (w : FVec Ideal S1024x64 .f32)

/-- A distance at an index. -/
theorem dist_apply (n : Fin 16384) (k : Fin 1024) :
    RefRun.dist x w (ix2 n k)
      = (∑ j : Fin 64, RefRun.rows x (ix2 n j) * RefRun.rows x (ix2 n j)
          - Ideal.ofBits FTy.f32 0x40000000#32 * ∑ j : Fin 64, RefRun.rows x (ix2 n j) * w (ix2 k j))
        + ∑ j : Fin 64, w (ix2 k j) * w (ix2 k j) := by
  unfold RefRun.dist
  generalize RefRun.rows x = X
  pointwise [RefRun.wt]

/-- The greatest entry of a row of the scores' array. -/
theorem top_apply (D : FVec Ideal S16384x1024 .f32) (n : Fin 16384) :
    Host.reduce FloatOps.maximumf D (constant S_ .f32 0xFF800000#32) reducesTo_S16384x1024_S16384_d1 h_S_ (ix1 n)
      = Finset.univ.fold max ⊥ fun k : Fin 1024 => D (ix2 n k) :=
  reduce_max_row D reducesTo_S16384x1024_S16384_d1 h_S_ n

/-- A score at an index: the distance negated. -/
theorem score_apply (n : Fin 16384) (k : Fin 1024) : RefRun.score x w (ix2 n k) = -RefRun.dist x w (ix2 n k) := rfl

/-- An array less a column, the column's entries taken with minus infinity first, at an index. -/
theorem less_column (D : FVec Ideal S16384x1024 .f32) (M : FVec Ideal S16384 .f32) (n : Fin 16384) (k : Fin 1024) :
    subf D (broadcastInDim S16384x1024 ![0, 1] bcast_S16384x1_S16384x1024_0_1 (broadcastInDim S16384x1 ![0] bcast_S16384_S16384x1_0 (maximumf (broadcastInDim S16384 ![] bcast_S_S16384 (constant S_ .f32 0xFF800000#32)) M))) (ix2 n k)
      = D (ix2 n k) - M (ix1 n) := by
  pointwise []
  rw [Reals.ofBits_bot, max_eq_right bot_le]

/-- A shifted score at an index. -/
theorem shifted_apply (n : Fin 16384) (k : Fin 1024) :
    RefRun.shifted x w (ix2 n k)
      = RefRun.score x w (ix2 n k) - Finset.univ.fold max ⊥ fun k : Fin 1024 => RefRun.score x w (ix2 n k) := by
  rw [← top_apply]
  exact less_column _ _ n k

/-- A weighted sum of codes at an index. -/
theorem weighted_apply (n : Fin 16384) (l : Fin 64) :
    RefRun.weighted x w (ix2 n l)
      = ∑ k : Fin 1024, (RefRun.shifted x w (ix2 n k) - Ideal.log (∑ k : Fin 1024, Ideal.exp (RefRun.shifted x w (ix2 n k)))) * w (ix2 k l) := by
  unfold RefRun.weighted
  generalize RefRun.shifted x w = X
  pointwise []

/-- The first result at an index. -/
theorem out_apply (i : S16x1024x64.Idx) :
    RefRun.out x w i
      = x i + (Ideal.div (RefRun.weighted x w (ix2 (Tokens.row i) (Tokens.col i)) + RefRun.quant x w i) (Ideal.ofBits FTy.f32 0x40000000#32) - x i) := by
  rw [← Tokens.cast_apply (RefRun.weighted x w) shapeCasts_S16384x64_S16x1024x64]
  rfl

/-- The second result. -/
theorem loss_apply (i : S_.Idx) :
    RefRun.loss x w i
      = Ideal.div (∑ a : Fin 16, ∑ b : Fin 1024, ∑ l : Fin 64, RefRun.gap x w (ix3 a b l) * RefRun.gap x w (ix3 a b l)) (Ideal.ofBits FTy.f32 0x49800000#32)
        + Ideal.ofBits FTy.f32 0x3E800000#32
          * Ideal.div (∑ a : Fin 16, ∑ b : Fin 1024, ∑ l : Fin 64, RefRun.gap x w (ix3 a b l) * RefRun.gap x w (ix3 a b l)) (Ideal.ofBits FTy.f32 0x49800000#32) := by
  unfold RefRun.loss
  generalize RefRun.gap x w = X
  pointwise []

/-- A code's number lies within the code book. -/
theorem in_range : ∀ p : Fin 1024,
    IntOp.cmpi .slt (BitVec.ofNat 32 p) 0#32 = 0#1 ∧ IntOp.cmpi .sge (BitVec.ofNat 32 p) 0#32 = 1#1
      ∧ IntOp.cmpi .sle (BitVec.ofNat 32 p) 1023#32 = 1#1 := by
  decide +kernel

variable (p : Fin 16384 → Fin 1024) (hp : ∀ n, RefRun.nearest x w (ix1 n) = BitVec.ofNat 32 (p n))

include hp in
/-- The index looked up is the nearest code's number. -/
theorem codeIdx_apply (n : Fin 16384) (z : Fin 1) : RefRun.codeIdx x w (ix2 n z) = BitVec.ofNat 32 (p n) := by
  have e : RefRun.codeIdx x w (ix2 n z)
      = Scalar.select (IntOp.cmpi .slt (RefRun.nearest x w (ix1 n)) 0#32) (IntOp.addi (RefRun.nearest x w (ix1 n)) 1024#32) (RefRun.nearest x w (ix1 n)) := by
    unfold RefRun.codeIdx
    generalize RefRun.nearest x w = X
    pointwise []
  rw [e, hp, (in_range (p n)).1]
  rfl

include hp in
/-- The nearest codes at an index: the code's own row. -/
theorem quant_apply (i : S16x1024x64.Idx) : RefRun.quant x w i = w (ix2 (p (Tokens.row i)) (Tokens.col i)) := by
  unfold RefRun.quant
  rw [Tokens.cast_apply]
  generalize Tokens.row i = n
  generalize Tokens.col i = l
  have hb : ∀ j, Host.reduce IntOp.andi (andi (cmpi .sge (RefRun.codeIdx x w) (broadcastInDim S16384x1 ![] bcast_S_S16384x1 (constantI S_ 32 0#32))) (cmpi .sle (RefRun.codeIdx x w) (broadcastInDim S16384x1 ![0, 1] bcast_S1x1_S16384x1_0_1 (broadcastInDim S1x1 ![1] bcast_S1_S1x1_1 (constantI S1 32 1023#32))))) (constantI S_ 1 1#1) reducesTo_S16384x1_S16384_d1 h_S_ j = 1#1 := by
    intro j
    refine Host.reduce_andi_one _ _ _ _ j rfl fun k => ?_
    show IntOp.andi (IntOp.cmpi .sge (RefRun.codeIdx x w k) 0#32) (IntOp.cmpi .sle (RefRun.codeIdx x w k) 1023#32) = 1#1
    have hk : RefRun.codeIdx x w k = BitVec.ofNat 32 (p (k 0)) := by
      refine Eq.trans ?_ (codeIdx_apply x w p hp (k 0) (k 1))
      exact congrArg _ (ix2_eta k).symm
    rw [hk, (in_range _).2.1, (in_range _).2.2]
    rfl
  have hg : Host.gather gather_S1024x64_S16384x1_S16384x64_1_0_n_n_0_1_164 w (RefRun.codeIdx x w) (ix2 n l) = w (ix2 (p n) l) :=
    Routing.gather_row gather_S1024x64_S16384x1_S16384x64_1_0_n_n_0_1_164 rfl rfl rfl rfl rfl w (RefRun.codeIdx x w) n l (p n)
      (codeIdx_apply x w p hp n 0) (by norm_num)
  generalize Host.reduce IntOp.andi _ _ _ _ = Y at hb ⊢
  generalize Host.gather _ _ _ = Z at hg ⊢
  show Scalar.select (Y _) (Z (ix2 n l)) _ = _
  rw [hb, hg]
  rfl

end Cert.RefValue
-- ==== Proof.RefReal.lean ====
/- The reference's two results on reals, given the nearest codes its arg-min found. -/
module

public import proofs.«01_k».proof.Proof.RefValue

@[expose] public section

noncomputable section

namespace Cert.RefReal

open Cert.ReferenceIdeal Cert.ReferenceIdeal.Gen Idealize.ShloMosaic

/-- The nearest codes' numbers are the arg-min of the distances. -/
theorem nearest_eq {F : FTy → Type} [FloatOps F] (x : FVec F S16x1024x64 .f32) (w : FVec F S1024x64 .f32) :
    RefRun.nearest x w = fun j => (Host.argReduce reducer_argmin_f32_i32 (RefRun.dist x w) (iotaInDim S16384x1024 32 1) (constant S_ .f32 0x7F800000#32) (constantI S_ 32 0#32) reducesTo_S16384x1024_S16384_d1 h_S_ j).2 := rfl

/-- The reference's arg-min on a row of reals. -/
theorem found (D : FVec Ideal S16384x1024 .f32) (n : Fin 16384) (d : Fin 1024 → ℝ) (hd : ∀ k, D (ix2 n k) = (d k : EReal)) :
    ∃ p : Fin 1024, (Host.argReduce reducer_argmin_f32_i32 D (iotaInDim S16384x1024 32 1) (constant S_ .f32 0x7F800000#32) (constantI S_ 32 0#32) reducesTo_S16384x1024_S16384_d1 h_S_ (ix1 n)).2 = BitVec.ofNat 32 p
      ∧ ∀ k, d p ≤ d k :=
  Argmin.row D reducesTo_S16384x1024_S16384_d1 (constant S_ .f32 0x7F800000#32) (constantI S_ 32 0#32) h_S_ Reals.ofBits_top n d hd

/-- A code no farther than any other is at the least distance. -/
theorem least_of_le (a : Fin 64 → ℝ) (W : Fin 1024 → Fin 64 → ℝ) (p : Fin 1024) (h : ∀ k, Rows.dist a W p ≤ Rows.dist a W k) :
    Rows.dist a W p = Rows.least a W :=
  le_antisymm ((Finset.le_inf'_iff _ _).2 fun k _ => h k) (Finset.inf'_le _ (Finset.mem_univ p))

variable (x : FVec Ideal S16x1024x64 .f32) (w : FVec Ideal S1024x64 .f32)
  (A : Fin 16384 → Fin 64 → ℝ) (W : Fin 1024 → Fin 64 → ℝ)
  (hA : ∀ n j, RefRun.rows x (ix2 n j) = (A n j : EReal)) (hW : ∀ k j, w (ix2 k j) = (W k j : EReal))

include hA hW in
/-- A distance is the real distance. -/
theorem dist_real (n : Fin 16384) (k : Fin 1024) : RefRun.dist x w (ix2 n k) = (Rows.dist (A n) W k : EReal) := by
  rw [RefValue.dist_apply, Reals.ofBits_two]
  simp only [hA, hW, ← EReal.coe_mul, Reals.sum_coe, ← EReal.coe_sub, ← EReal.coe_add]
  rfl

include hA hW in
/-- A score is the real distance negated. -/
theorem score_real (n : Fin 16384) (k : Fin 1024) : RefRun.score x w (ix2 n k) = ((-Rows.dist (A n) W k : ℝ) : EReal) := by
  rw [RefValue.score_apply, dist_real x w A W hA hW, EReal.coe_neg]

include hA hW in
/-- A shifted score is the real one. -/
theorem shifted_real (n : Fin 16384) (k : Fin 1024) : RefRun.shifted x w (ix2 n k) = (Rows.shifted (A n) W k : EReal) := by
  rw [RefValue.shifted_apply]
  simp only [score_real x w A W hA hW]
  rw [Reals.fold_max_coe _ ⟨0, Finset.mem_univ _⟩, ← EReal.coe_sub]
  rfl

include hA hW in
/-- A weighted sum of codes is the real one. -/
theorem weighted_real (n : Fin 16384) (l : Fin 64) : RefRun.weighted x w (ix2 n l) = (Rows.weighted (A n) W l : EReal) := by
  rw [RefValue.weighted_apply]
  simp only [shifted_real x w A W hA hW]
  rw [Reals.log_sum_exp]
  simp only [hW, ← EReal.coe_sub, ← EReal.coe_mul, Reals.sum_coe]
  rfl

include hA hW in
/-- The arg-min finds for a token a code at the least distance. -/
theorem nearest_row (n : Fin 16384) : ∃ p : Fin 1024, RefRun.nearest x w (ix1 n) = BitVec.ofNat 32 p
    ∧ Rows.dist (A n) W p = Rows.least (A n) W := by
  obtain ⟨p, hp, hl⟩ := found (RefRun.dist x w) n (Rows.dist (A n) W) (dist_real x w A W hA hW n)
  exact ⟨p, (congrFun (nearest_eq x w) (ix1 n)).trans hp, least_of_le _ _ p hl⟩

include hA hW in
/-- The arg-min finds for each token a code at the least distance. -/
theorem nearest_exists : ∃ p : Fin 16384 → Fin 1024, ∀ n, RefRun.nearest x w (ix1 n) = BitVec.ofNat 32 (p n)
    ∧ Rows.dist (A n) W (p n) = Rows.least (A n) W :=
  ⟨fun n => (nearest_row x w A W hA hW n).choose, fun n => (nearest_row x w A W hA hW n).choose_spec⟩

include hA in
/-- A token at an index is a real. -/
theorem token_real (i : S16x1024x64.Idx) : x i = (A (Tokens.row i) (Tokens.col i) : EReal) := by
  rw [← hA]
  exact Tokens.rows_apply x shapeCasts_S16x1024x64_S16384x64 shapeCasts_S16384x64_S16x1024x64 i

variable (p : Fin 16384 → Fin 1024) (hp : ∀ n, RefRun.nearest x w (ix1 n) = BitVec.ofNat 32 (p n)
  ∧ Rows.dist (A n) W (p n) = Rows.least (A n) W)

include hA hW hp in
/-- The first result at an index is the real half sum of the weighted codes and the nearest code, by way of the token. -/
theorem out_real (i : S16x1024x64.Idx) :
    RefRun.out x w i
      = ((A (Tokens.row i) (Tokens.col i)
          + ((Rows.weighted (A (Tokens.row i)) W (Tokens.col i) + W (p (Tokens.row i)) (Tokens.col i)) / 2
            - A (Tokens.row i) (Tokens.col i)) : ℝ) : EReal) := by
  rw [RefValue.out_apply, weighted_real x w A W hA hW, RefValue.quant_apply x w p (fun n => (hp n).1), hW, token_real x A hA,
    Reals.ofBits_two, Ideal.div_coe two_ne_zero, ← EReal.coe_add, ← EReal.coe_mul, ← EReal.coe_sub, ← EReal.coe_add,
    ← div_eq_mul_one_div]

include hA hW hp in
/-- The squared gaps, summed, are the least distances, summed. -/
theorem gap_real :
    ∑ a : Fin 16, ∑ b : Fin 1024, ∑ l : Fin 64, RefRun.gap x w (ix3 a b l) * RefRun.gap x w (ix3 a b l)
      = ((∑ n, Rows.least (A n) W : ℝ) : EReal) := by
  have h : ∀ i, RefRun.gap x w i
      = ((W (p (Tokens.row i)) (Tokens.col i) - A (Tokens.row i) (Tokens.col i) : ℝ) : EReal) := by
    intro i
    show RefRun.quant x w i - x i = _
    rw [RefValue.quant_apply x w p (fun n => (hp n).1), hW, token_real x A hA, ← EReal.coe_sub]
  simp only [h, ← EReal.coe_mul, Reals.sum_coe]
  refine congrArg _ (Tokens.sum_split (by norm_num) _ _ fun a b c hc => ?_)
  rw [← (hp c).2, ← Rows.gap_eq]
  have hc' : ∀ l : Fin 64, Tokens.row (ix3 a b l) = c := fun l => Fin.ext hc.symm
  refine Finset.sum_congr rfl fun l _ => ?_
  rw [hc' l]
  rfl

include hA hW hp in
/-- The second result is the real mean of the least distances and a quarter of it. -/
theorem loss_real (i : S_.Idx) :
    RefRun.loss x w i = (((∑ n, Rows.least (A n) W) * (5 / 4 / 1048576) : ℝ) : EReal) := by
  rw [RefValue.loss_apply, gap_real x w A W hA hW p hp, Reals.ofBits_count, Reals.ofBits_quarter,
    Ideal.div_coe (by norm_num), ← EReal.coe_mul, ← EReal.coe_mul, ← EReal.coe_add]
  exact congrArg _ (by ring)

end Cert.RefReal
-- ==== Proof.Nearest.lean ====
/- The count of the codes at a token's least distance, and what a count of one says. -/
module

public import proofs.«01_k».proof.Proof.RefReal
public import Idealize.ShloMosaic.Lib.StableHlo.Predicate

@[expose] public section

noncomputable section

namespace Cert.Nearest

open Cert.ReferenceIdeal Cert.ReferenceIdeal.Gen Idealize.ShloMosaic

/-- One is less than thirty-two. -/
theorem one_lt : 1 < 32 := by decide

/-- Where an entry is its row's least one. -/
def hits {F : FTy → Type} [FloatOps F] (D : FVec F S16384x1024 .f32) : IVec S16384x1024 1 :=
  cmpf .oeq D (broadcastInDim S16384x1024 ![0, 1] bcast_S16384x1_S16384x1024_0_1 (broadcastInDim S16384x1 ![0] bcast_S16384_S16384x1_0 (Host.reduce FloatOps.minimumf D (constant S_ .f32 0x7F800000#32) reducesTo_S16384x1024_S16384_d1 h_S_)))

/-- Whether a row has just one marked entry. -/
def single (H : IVec S16384x1024 1) : IVec S16384x1 1 :=
  cmpi .eq (broadcastInDim S16384x1 ![0] bcast_S16384_S16384x1_0 (Host.reduce IntOp.addi (extui 32 H one_lt) (constantI S_ 32 0#32) reducesTo_S16384x1024_S16384_d1 h_S_)) (broadcastInDim S16384x1 ![] bcast_S_S16384x1 (constantI S_ 32 1#32))

/-- A row's least entry, as the reference folds it. -/
theorem reduce_min_row {M N : ℕ} (X : FVec Ideal ⟨2, ![M, N]⟩ .f32) (h : (⟨2, ![M, N]⟩ : Shape).ReducesTo [1] ⟨1, ![M]⟩)
    (hu : 0 < S_.numel) (n : Fin M) :
    Host.reduce FloatOps.minimumf X (constant (F := Ideal) S_ .f32 0x7F800000#32) h hu (ix1 n)
      = Finset.univ.fold min ⊤ fun k : Fin N => X (ix2 n k) := by
  rw [RefValue.reduce_row, ← Reals.ofBits_top]
  rfl

/-- An array compared with a column, at an index. -/
theorem against_column (D : FVec Ideal S16384x1024 .f32) (M : FVec Ideal S16384 .f32) (n : Fin 16384) (k : Fin 1024) :
    cmpf .oeq D (broadcastInDim S16384x1024 ![0, 1] bcast_S16384x1_S16384x1024_0_1 (broadcastInDim S16384x1 ![0] bcast_S16384_S16384x1_0 M)) (ix2 n k)
      = BitVec.ofBool (decide (D (ix2 n k) = M (ix1 n))) := by
  pointwise []

/-- The bit of a proposition is one just where the proposition holds. -/
theorem bit_one (P : Prop) [Decidable P] : BitVec.ofBool (decide P) = 1#1 ↔ P := by
  by_cases h : P <;> simp [h]

/-- On a row of reals an entry is marked just where it is the row's least. -/
theorem hits_real (D : FVec Ideal S16384x1024 .f32) (n : Fin 16384) (d : Fin 1024 → ℝ) (hd : ∀ k, D (ix2 n k) = (d k : EReal)) (k : Fin 1024) :
    hits D (ix2 n k) = 1#1 ↔ d k = Finset.univ.inf' ⟨0, Finset.mem_univ _⟩ d := by
  have e : hits D (ix2 n k) = BitVec.ofBool (decide ((d k : EReal) = ((Finset.univ.inf' ⟨0, Finset.mem_univ _⟩ d : ℝ) : EReal))) := by
    rw [← Reals.fold_min_coe _ ⟨0, Finset.mem_univ _⟩ d, ← hd k]
    simp only [← hd]
    rw [← reduce_min_row D reducesTo_S16384x1024_S16384_d1 h_S_ n]
    exact against_column D _ n k
  rw [e]
  exact (bit_one _).trans EReal.coe_eq_coe_iff

/-- A word compared with one, at an index. -/
theorem against_one (C : IVec S16384 32) (n : Fin 16384) :
    cmpi .eq (broadcastInDim S16384x1 ![0] bcast_S16384_S16384x1_0 C) (broadcastInDim S16384x1 ![] bcast_S_S16384x1 (constantI S_ 32 1#32)) (ix2 n 0)
      = IntOp.cmpi .eq (C (ix1 n)) 1#32 := by
  pointwise []

/-- A row counted as having just one marked entry has no two. -/
theorem single_unique (H : IVec S16384x1024 1) (n : Fin 16384) (h : single H (ix2 n 0) = 1#1) (k p : Fin 1024)
    (hk : H (ix2 n k) = 1#1) (hp : H (ix2 n p) = 1#1) : k = p := by
  have e : (Host.reduce IntOp.addi (extui 32 H one_lt) (constantI S_ 32 0#32) reducesTo_S16384x1024_S16384_d1 h_S_ (ix1 n)).toNat = 1 := by
    have h' := (against_one _ n).symm.trans h
    generalize Host.reduce IntOp.addi (extui 32 H one_lt) (constantI S_ 32 0#32) reducesTo_S16384x1024_S16384_d1 h_S_ (ix1 n) = c at h' ⊢
    have : c = 1#32 := by
      by_contra hc
      have hb : (c == 1#32) = false := by simpa using hc
      have hz : BitVec.ofBool (c == 1#32) = 1#1 := h'
      rw [hb] at hz
      exact absurd hz (by decide)
    rw [this]
    rfl
  rw [StableHlo.Predicate.toNat_reduce_count_cols (by norm_num) H one_lt] at e
  obtain ⟨q, hq⟩ := Finset.card_eq_one.1 e
  have mem : ∀ r : Fin 1024, H (ix2 n r) = 1#1 → r = q := fun r hr => by
    have : r ∈ ({q} : Finset (Fin 1024)) := by
      rw [← hq]
      exact Finset.mem_filter.2 ⟨Finset.mem_univ _, hr⟩
    exact Finset.mem_singleton.1 this
  rw [mem k hk, mem p hp]

end Cert.Nearest
-- ==== Proof.Points.lean ====
module

public import proofs.«01_k».proof.Proof.Gen.KernelIdeal.Frame
public import Idealize.ShloMosaic.Lib.Pipeline.Value

/-! What one grid point leaves in the two staging buffers: the block of the output, and the running sum of the loss. -/

@[expose] public section

set_option maxRecDepth 16384

noncomputable section

namespace Cert.Points

open Idealize.ShloMosaic Idealize.ShloMosaic.TcCoe Idealize.ShloMosaic.Tactic
open Cert.KernelIdeal Cert.KernelIdeal.Gen

variable {F : FTy → Type} [FloatOps F]

/-- The offsets of a whole two-axis block are zero. -/
theorem zeros : (![0, 0] : Fin 2 → ℕ) = fun _ => 0 := by
  funext a; fin_cases a <;> rfl

/-- What one point adds to the running sum of the loss. -/
def added (x : Vec F S4096x64 .f32) (w : Vec F S1024x64 .f32) (acc : Vec F S1x1 .f32) : Vec F S1x1 .f32 :=
  k0_pay2 (k0_pay8 x w) (k0_pay10 x) acc

/-- What the first point leaves in the output block. -/
theorem out_A_2 (c : Dev nD) (i : grid0.Coords) (arg1 : Memref sig .tc .vmem S4096x64 .f32) (harg1 : arg1.IsWhole)
    (arg2 : Memref sig .tc .vmem S1024x64 .f32) (harg2 : arg2.IsWhole) (arg3 : Memref sig .tc .vmem S4096x64 .f32) (harg3 : arg3.IsWhole)
    (arg4 : Memref sig .tc .vmem S1x1 .f32) (harg4 : arg4.IsWhole)
    (hc0 : cond0_0 i) (hc1 : ¬cond0_1 i) (x0 : Vec F S4096x64 .f32) (x1 : Vec F S1024x64 .f32) :
    out0_A_2 c i arg1 harg1 arg2 harg2 arg3 harg3 arg4 harg4 hc0 hc1 x0 x1 = k0_pay9 x0 x1 := by
  unfold out0_A_2
  rw [View.read_writes_eq_canon _ _ _ (cover0_A_2 c i arg1 harg1 arg2 harg2 arg3 harg3 arg4 harg4 hc0 hc1 x0 x1)]
  unfold kernelRun0_A
  dsimp only
  sl_unfold_words
  simp only [View.readAt_eq_ld, harg1.read_unread, harg2.read_unread, harg4.read_unread]
  simp only [View.ld_unit_zero (S := S4096x64) zeros, View.ld_unit_zero (S := S1024x64) zeros, View.ld_unit_zero (S := S1x1) zeros,
    View.canon_cons_unit_zero (S := S4096x64) zeros, View.canon_cons_unit_zero (S := S1x1) zeros,
    View.readCov_unit_zero (S := S1x1) _ zeros]

/-- What the first point leaves in the running sum of the loss. -/
theorem out_A_3 (c : Dev nD) (i : grid0.Coords) (arg1 : Memref sig .tc .vmem S4096x64 .f32) (harg1 : arg1.IsWhole)
    (arg2 : Memref sig .tc .vmem S1024x64 .f32) (harg2 : arg2.IsWhole) (arg3 : Memref sig .tc .vmem S4096x64 .f32) (harg3 : arg3.IsWhole)
    (arg4 : Memref sig .tc .vmem S1x1 .f32) (harg4 : arg4.IsWhole)
    (hc0 : cond0_0 i) (hc1 : ¬cond0_1 i) (x0 : Vec F S4096x64 .f32) (x1 : Vec F S1024x64 .f32) :
    out0_A_3 c i arg1 harg1 arg2 harg2 arg3 harg3 arg4 harg4 hc0 hc1 x0 x1 = added x0 x1 k0_pay1 := by
  unfold out0_A_3
  rw [View.read_writes_eq_canon _ _ _ (cover0_A_3 c i arg1 harg1 arg2 harg2 arg3 harg3 arg4 harg4 hc0 hc1 x0 x1)]
  unfold kernelRun0_A
  dsimp only
  sl_unfold_words
  simp only [View.readAt_eq_ld, harg1.read_unread, harg2.read_unread, harg4.read_unread]
  simp only [View.ld_unit_zero (S := S4096x64) zeros, View.ld_unit_zero (S := S1024x64) zeros, View.ld_unit_zero (S := S1x1) zeros,
    View.canon_cons_unit_zero (S := S4096x64) zeros, View.canon_cons_unit_zero (S := S1x1) zeros,
    View.readCov_unit_zero (S := S1x1) _ zeros]
  rfl

/-- What a middle point leaves in the output block. -/
theorem out_B_2 (c : Dev nD) (i : grid0.Coords) (arg1 : Memref sig .tc .vmem S4096x64 .f32) (harg1 : arg1.IsWhole)
    (arg2 : Memref sig .tc .vmem S1024x64 .f32) (harg2 : arg2.IsWhole) (arg3 : Memref sig .tc .vmem S4096x64 .f32) (harg3 : arg3.IsWhole)
    (arg4 : Memref sig .tc .vmem S1x1 .f32) (harg4 : arg4.IsWhole)
    (hc0 : ¬cond0_0 i) (hc1 : ¬cond0_1 i) (x0 : Vec F S4096x64 .f32) (x1 : Vec F S1024x64 .f32) (xo3 : Vec F S1x1 .f32) :
    out0_B_2 c i arg1 harg1 arg2 harg2 arg3 harg3 arg4 harg4 hc0 hc1 x0 x1 xo3 = k0_pay9 x0 x1 := by
  unfold out0_B_2
  rw [View.read_writes_eq_canon _ _ _ (cover0_B_2 c i arg1 harg1 arg2 harg2 arg3 harg3 arg4 harg4 hc0 hc1 x0 x1 xo3)]
  unfold kernelRun0_B
  dsimp only
  sl_unfold_words
  simp only [View.readAt_eq_ld, harg1.read_unread, harg2.read_unread, harg4.read_unread]
  simp only [View.ld_unit_zero (S := S4096x64) zeros, View.ld_unit_zero (S := S1024x64) zeros, View.ld_unit_zero (S := S1x1) zeros,
    View.canon_cons_unit_zero (S := S4096x64) zeros, View.canon_cons_unit_zero (S := S1x1) zeros,
    View.readCov_unit_zero (S := S1x1) _ zeros]

/-- What a middle point leaves in the running sum of the loss. -/
theorem out_B_3 (c : Dev nD) (i : grid0.Coords) (arg1 : Memref sig .tc .vmem S4096x64 .f32) (harg1 : arg1.IsWhole)
    (arg2 : Memref sig .tc .vmem S1024x64 .f32) (harg2 : arg2.IsWhole) (arg3 : Memref sig .tc .vmem S4096x64 .f32) (harg3 : arg3.IsWhole)
    (arg4 : Memref sig .tc .vmem S1x1 .f32) (harg4 : arg4.IsWhole)
    (hc0 : ¬cond0_0 i) (hc1 : ¬cond0_1 i) (x0 : Vec F S4096x64 .f32) (x1 : Vec F S1024x64 .f32) (xo3 : Vec F S1x1 .f32) :
    out0_B_3 c i arg1 harg1 arg2 harg2 arg3 harg3 arg4 harg4 hc0 hc1 x0 x1 xo3 = added x0 x1 xo3 := by
  unfold out0_B_3
  rw [View.read_writes_eq_canon _ _ _ (cover0_B_3 c i arg1 harg1 arg2 harg2 arg3 harg3 arg4 harg4 hc0 hc1 x0 x1 xo3)]
  unfold kernelRun0_B
  dsimp only
  sl_unfold_words
  simp only [View.readAt_eq_ld, harg1.read_unread, harg2.read_unread, harg4.read_unread]
  simp only [View.ld_unit_zero (S := S4096x64) zeros, View.ld_unit_zero (S := S1024x64) zeros, View.ld_unit_zero (S := S1x1) zeros,
    View.canon_cons_unit_zero (S := S4096x64) zeros, View.canon_cons_unit_zero (S := S1x1) zeros,
    View.readCov_unit_zero (S := S1x1) _ zeros]
  rfl

/-- What the last point leaves in the output block. -/
theorem out_C_2 (c : Dev nD) (i : grid0.Coords) (arg1 : Memref sig .tc .vmem S4096x64 .f32) (harg1 : arg1.IsWhole)
    (arg2 : Memref sig .tc .vmem S1024x64 .f32) (harg2 : arg2.IsWhole) (arg3 : Memref sig .tc .vmem S4096x64 .f32) (harg3 : arg3.IsWhole)
    (arg4 : Memref sig .tc .vmem S1x1 .f32) (harg4 : arg4.IsWhole)
    (hc0 : ¬cond0_0 i) (hc1 : cond0_1 i) (x0 : Vec F S4096x64 .f32) (x1 : Vec F S1024x64 .f32) (xo3 : Vec F S1x1 .f32) :
    out0_C_2 c i arg1 harg1 arg2 harg2 arg3 harg3 arg4 harg4 hc0 hc1 x0 x1 xo3 = k0_pay9 x0 x1 := by
  unfold out0_C_2
  rw [View.read_writes_eq_canon _ _ _ (cover0_C_2 c i arg1 harg1 arg2 harg2 arg3 harg3 arg4 harg4 hc0 hc1 x0 x1 xo3)]
  unfold kernelRun0_C
  dsimp only
  sl_unfold_words
  simp only [View.readAt_eq_ld, harg1.read_unread, harg2.read_unread, harg4.read_unread]
  simp only [View.ld_unit_zero (S := S4096x64) zeros, View.ld_unit_zero (S := S1024x64) zeros, View.ld_unit_zero (S := S1x1) zeros,
    View.canon_cons_unit_zero (S := S4096x64) zeros, View.canon_cons_unit_zero (S := S1x1) zeros,
    View.readCov_unit_zero (S := S1x1) _ zeros]

/-- What the last point leaves in the running sum of the loss. -/
theorem out_C_3 (c : Dev nD) (i : grid0.Coords) (arg1 : Memref sig .tc .vmem S4096x64 .f32) (harg1 : arg1.IsWhole)
    (arg2 : Memref sig .tc .vmem S1024x64 .f32) (harg2 : arg2.IsWhole) (arg3 : Memref sig .tc .vmem S4096x64 .f32) (harg3 : arg3.IsWhole)
    (arg4 : Memref sig .tc .vmem S1x1 .f32) (harg4 : arg4.IsWhole)
    (hc0 : ¬cond0_0 i) (hc1 : cond0_1 i) (x0 : Vec F S4096x64 .f32) (x1 : Vec F S1024x64 .f32) (xo3 : Vec F S1x1 .f32) :
    out0_C_3 c i arg1 harg1 arg2 harg2 arg3 harg3 arg4 harg4 hc0 hc1 x0 x1 xo3 = k0_pay3 (added x0 x1 xo3) := by
  unfold out0_C_3
  rw [View.read_writes_eq_canon _ _ _ (cover0_C_3 c i arg1 harg1 arg2 harg2 arg3 harg3 arg4 harg4 hc0 hc1 x0 x1 xo3)]
  unfold kernelRun0_C
  dsimp only
  sl_unfold_words
  simp only [View.readAt_eq_ld, harg1.read_unread, harg2.read_unread, harg4.read_unread]
  simp only [View.ld_unit_zero (S := S4096x64) zeros, View.ld_unit_zero (S := S1024x64) zeros, View.ld_unit_zero (S := S1x1) zeros,
    View.canon_cons_unit_zero (S := S4096x64) zeros, View.canon_cons_unit_zero (S := S1x1) zeros,
    View.readCov_unit_zero (S := S1x1) _ zeros]
  rfl

end Cert.Points

end
-- ==== Proof.KernelRun.lean ====
/- What the kernel's run leaves in its two results, as functions of the argument arrays. -/
module

public import proofs.«01_k».proof.Proof.Points
public import Idealize.ShloMosaic.Lib.Pointwise
public import Idealize.ShloMosaic.Lib.Pipeline.ValueKit
public import Idealize.ShloMosaic.Lib.StableHlo.Run

@[expose] public section

set_option maxRecDepth 16384

noncomputable section

namespace Cert.KernelRun

open Idealize.ShloMosaic Idealize.ShloMosaic.TcCoe Idealize.ShloMosaic.Tactic
open Idealize.SL.Sem
open Cert.KernelIdeal Cert.KernelIdeal.Gen

variable {F : FTy → Type} [FloatOps F]

/-- The tokens in one row each, as the region finds them. -/
def rows (x : Vec F S16x1024x64 .f32) : Vec F S16384x64 .f32 :=
  shapeCast S16384x64 x shapeCasts_S16x1024x64_S16384x64

/-- The rows one grid point reads. -/
def block (X : Vec F S16384x64 .f32) (t : Fin 4) : Vec F S4096x64 .f32 :=
  fun y => X (ix2 (⟨4096 * t.val + (y 0).val, by have := t.isLt; have : (y 0).val < 4096 := (y 0).isLt; omega⟩ : Fin 16384) (y 1 : Fin 64))

/-- The output, row by row: each row is computed by the point whose block holds it. -/
def outRows (X : Vec F S16384x64 .f32) (w : Vec F S1024x64 .f32) : Vec F S16384x64 .f32 :=
  fun i => k0_pay9 (block X ⟨(i 0).val / 4096, by have : (i 0).val < 16384 := (i 0).isLt; omega⟩) w
    (ix2 (⟨(i 0).val % 4096, Nat.mod_lt _ (by decide)⟩ : Fin 4096) (i 1 : Fin 64))

/-- The running sum of the loss after a point. -/
def sum (X : Vec F S16384x64 .f32) (w : Vec F S1024x64 .f32) : ℕ → Vec F S1x1 .f32
  | 0 => Points.added (block X 0) w k0_pay1
  | n + 1 => Points.added (block X (Fin.ofNat 4 (n + 1))) w (sum X w n)

/-- The loss as the region leaves it. -/
def lossCell (X : Vec F S16384x64 .f32) (w : Vec F S1024x64 .f32) : Vec F S1x1 .f32 := k0_pay3 (sum X w 3)

/-- The kernel's first result. -/
def out (x : Vec F S16x1024x64 .f32) (w : Vec F S1024x64 .f32) : Vec F S16x1024x64 .f32 :=
  shapeCast S16x1024x64 (outRows (rows x) w) shapeCasts_S16384x64_S16x1024x64

/-- The kernel's second result. -/
def loss (x : Vec F S16x1024x64 .f32) (w : Vec F S1024x64 .f32) : Vec F S_ .f32 :=
  shapeCast S_ (lossCell (rows x) w) shapeCasts_S1x1_S_

variable (m : (ℓ : Loc nD τ sig) → Buf (Elt F) ℓ) (ρ : Dev nD → PrngReg)

/-- The windows of the tokens and of the output move one block a point; the others stay. -/
theorem idx_facts : ∀ t : Fin cfg0.N, win0_0.index t = ![t.val, 0] ∧ win0_1.index t = ![0, 0] ∧ win0_2.index t = ![t.val, 0]
    ∧ win0_3.index t = ![0, 0] := (by decide +kernel : ∀ t : Fin grid0.N, _)

/-- The tokens a point reads are its block of the rows. -/
theorem tokens_eq (c : Dev nD) (t : Fin cfg0.N) (s : Fin 4) (h : t.val = s.val) :
    (iblk m c 0 t : Vec F S4096x64 .f32) = block (V m c main_call0_v0) s := by
  funext y
  have e := (idx_facts t).1
  unfold block
  blk_simp [iblk]
  congr 1
  blk_ext [e]

/-- Every point reads all the codes. -/
theorem codes_eq (c : Dev nD) (t : Fin cfg0.N) :
    (iblk m c 1 t : Vec F S1024x64 .f32) = V m c main_arg1 := by
  funext y
  have e := (idx_facts t).2.1
  blk_simp [iblk]
  congr 1
  blk_ext [e]

/-- What a point leaves in the output's block, whichever of the three cases it is. -/
theorem out_point (c : Dev nD) (t : Fin cfg0.N) :
    (outsAt0 m c t.val t.isLt).1 = k0_pay9 (iblk m c 0 t) (iblk m c 1 t) := by
  have hN : t.val < 4 := lt_of_lt_of_eq t.isLt N_0
  by_cases h0 : t.val % 4 = 0
  · rw [outsAt0_A m c t h0 (by omega)]
    dsimp only
    rw [Points.out_A_2]
  · by_cases h1 : t.val % 4 = 3
    · rw [outsAt0_C m c t h0 h1]
      dsimp only
      rw [Points.out_C_2]
    · rw [outsAt0_B m c t h0 h1]
      dsimp only
      rw [Points.out_B_2]

/-- The running sum of the loss before the last point. -/
theorem sum_point (c : Dev nD) : ∀ (n : ℕ) (hn : n < cfg0.N), n < 3 →
    (outsAt0 m c n hn).2 = sum (V m c main_call0_v0) (V m c main_arg1) n
  | 0, hn, _ => by
    have e := outsAt0_A m c ⟨0, hn⟩ rfl (by dsimp only; omega)
    refine (congrArg Prod.snd e).trans ?_
    dsimp only
    rw [Points.out_A_3]
    rw [tokens_eq m c ⟨0, hn⟩ 0 rfl, codes_eq]
    rfl
  | n + 1, hn, h => by
    have e := outsAt0_B m c ⟨n + 1, hn⟩ (by dsimp only; omega) (by dsimp only; omega)
    refine (congrArg Prod.snd e).trans ?_
    dsimp only
    rw [Points.out_B_3]
    rw [tokens_eq m c ⟨n + 1, hn⟩ (Fin.ofNat 4 (n + 1)) (by simp only [Fin.ofNat]; omega), codes_eq]
    exact congrArg (Points.added _ _) (sum_point c n (by omega) (by omega))

/-- What the last point leaves of the loss. -/
theorem loss_point (c : Dev nD) (hn : 3 < cfg0.N) :
    (outsAt0 m c 3 hn).2 = lossCell (V m c main_call0_v0) (V m c main_arg1) := by
  have e := outsAt0_C m c ⟨3, hn⟩ (by dsimp only; omega) rfl
  refine (congrArg Prod.snd e).trans ?_
  dsimp only
  rw [Points.out_C_3]
  rw [tokens_eq m c ⟨3, hn⟩ 3 rfl, codes_eq]
  exact congrArg (fun a => k0_pay3 (Points.added _ _ a)) (sum_point m c 2 (by omega) (by omega))

/-- The output's array after the region. -/
theorem array_out (c : Dev nD) :
    (dats m 0 c).arrAt 2 cfg0.N = outRows (V m c main_call0_v0) (V m c main_arg1) := by
  refine (dats m 0 c).arrAt_eq_of_covers 2 _ (by decide +kernel) fun t hf y => ?_
  have hN : t.val < 4 := lt_of_lt_of_eq t.isLt N_0
  have e := (idx_facts t).2.2.1
  blk_simp
  rw [after0_2, out_point, tokens_eq m c t ⟨t.val, hN⟩ rfl, codes_eq]
  unfold outRows
  blk_simp [e]
  have hy : (y 0).val < 4096 := (y 0).isLt
  congr 1
  · congr 2
    omega
  · blk_ext [e]

/-- The loss's array after the region. -/
theorem array_loss (c : Dev nD) :
    (dats m 0 c).arrAt 3 cfg0.N = lossCell (V m c main_call0_v0) (V m c main_arg1) := by
  refine (dats m 0 c).arrAt_eq_of_covers 3 _ (by decide +kernel) fun t hf y => ?_
  have e := (idx_facts t).2.2.2
  have h3 := (flush0_3 t).mp hf
  have hN : t.val < 4 := lt_of_lt_of_eq t.isLt N_0
  blk_simp
  rw [after0_3]
  have loss_at : (outsAt0 m c t.val t.isLt).2 = lossCell (V m c main_call0_v0) (V m c main_arg1) := by
    obtain ⟨n, hn⟩ := t
    obtain rfl : n = 3 := by dsimp only at h3 hN; omega
    exact loss_point m c hn
  rw [loss_at]
  congr 1
  blk_ext [e]

/-- The rows the region finds. -/
theorem entry_rows (c : Dev nD) : V m c main_call0_v0 = rows (m (c, main_arg0)) := by
  unfold V V0
  simp only [hostOps0, List.flatten_cons, List.flatten_nil, List.append_nil]
  after_results
  rfl

/-- The kernel's run: both results are those functions of the arguments, which end unchanged. -/
theorem run : θ_run defs (onTc (τ := τ) (main (F := F))) ⟨m, fun _ => 0, ρ⟩ (fun r => ∀ c : Dev nD,
    r.2.mem ((c.tc : Thread nD τ).loc main_v0_0) = out (m ((c.tc : Thread nD τ).loc main_arg0)) (m ((c.tc : Thread nD τ).loc main_arg1))
    ∧ r.2.mem ((c.tc : Thread nD τ).loc main_v0_1) = loss (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run defs _ _).mono (fun r h c => ⟨?_, ?_, h.1 c⟩) (θ_run_and (unchanged m ρ) (run_main m ρ))
  · refine (h.2.rest_eq c main_v0_0 (by decide)).trans ?_
    unfold Pipeline.afterTail₀
    simp only [hostOps1, List.flatten_cons, List.flatten_nil, List.append_nil]
    after_results
    have e := (Pipeline.withArrays_arr spec0 (by decide) c (V0 m c) (fun w => (dats m 0 c).arrAt w cfg0.N) 2).trans (array_out m c)
    rw [entry_rows, V_main_arg1] at e
    exact congrArg (fun X => shapeCast S16x1024x64 X shapeCasts_S16384x64_S16x1024x64) e
  · refine (h.2.rest_eq c main_v0_1 (by decide)).trans ?_
    unfold Pipeline.afterTail₀
    simp only [hostOps1, List.flatten_cons, List.flatten_nil, List.append_nil]
    after_results
    have e := (Pipeline.withArrays_arr spec0 (by decide) c (V0 m c) (fun w => (dats m 0 c).arrAt w cfg0.N) 3).trans (array_loss m c)
    rw [entry_rows, V_main_arg1] at e
    exact congrArg (fun X => shapeCast S_ X shapeCasts_S1x1_S_) e

end Cert.KernelRun

end
-- ==== Proof.Block.lean ====
/- What one grid point of the kernel computes, at an index: the scores, the row's greatest score, the output block and
   the point's part of the loss. -/
module

public import proofs.«01_k».proof.Proof.Gen.KernelIdeal.Skeleton
public import proofs.«01_k».proof.Proof.Reals
public import proofs.«01_k».proof.Proof.Rows
public import Idealize.ShloMosaic.Lib.Pointwise

@[expose] public section

noncomputable section

namespace Cert.Block

open Cert.KernelIdeal Cert.KernelIdeal.Gen Idealize.ShloMosaic

/-- A token's score for a code: twice the inner product less the code's square. -/
theorem score_apply (x : Vec Ideal S4096x64 .f32) (w : Vec Ideal S1024x64 .f32) (r : Fin 4096) (k : Fin 1024) :
    k0_pay7 x w (ix2 r k)
      = (∑ j : Fin 64, (x (ix2 r j) + x (ix2 r j)) * w (ix2 k j)) - ∑ j : Fin 64, w (ix2 k j) * w (ix2 k j) := by
  pointwise [k0_pay7, k0_pay6, k0_pay5, k0_pay4]

/-- A row's greatest score. -/
theorem best_apply (x : Vec Ideal S4096x64 .f32) (w : Vec Ideal S1024x64 .f32) (r : Fin 4096) :
    k0_pay8 x w (ix2 r 0) = Finset.univ.fold max ⊥ fun k : Fin 1024 => k0_pay7 x w (ix2 r k) := by
  pointwise [k0_pay8]
  rw [Reals.ofBits_bot]

/-- A token's square. -/
theorem square_apply (x : Vec Ideal S4096x64 .f32) (r : Fin 4096) :
    k0_pay10 x (ix2 r 0) = ∑ j : Fin 64, x (ix2 r j) * x (ix2 r j) := by
  pointwise [k0_pay10, k0_pay4]

/-- The output block at an index. -/
theorem out_apply (x : Vec Ideal S4096x64 .f32) (w : Vec Ideal S1024x64 .f32) (r : Fin 4096) (l : Fin 64) :
    k0_pay9 x w (ix2 r l)
      = ((∑ j : Fin 64, (x (ix2 r j) + x (ix2 r j)) * ∑ k : Fin 1024, w (ix2 k j) * (w (ix2 k l) * Ideal.ofBits FTy.f32 0x3F000000#32))
          - ∑ k : Fin 1024, (∑ j : Fin 64, w (ix2 k j) * w (ix2 k j)) * (w (ix2 k l) * Ideal.ofBits FTy.f32 0x3F000000#32))
        + ((∑ k : Fin 1024, (FloatOps.sitofp FTy.f32 (BitVec.setWidth 32 (BitVec.ofBool (decide (k0_pay7 x w (ix2 r k) = k0_pay8 x w (ix2 r 0))))) : Ideal FTy.f32)
              * (w (ix2 k l) * Ideal.ofBits FTy.f32 0x3F000000#32))
          - Ideal.log (∑ k : Fin 1024, Ideal.exp (k0_pay7 x w (ix2 r k))) * ∑ k : Fin 1024, w (ix2 k l) * Ideal.ofBits FTy.f32 0x3F000000#32) := by
  pointwise [k0_pay9, k0_pay6, k0_pay5, k0_pay4]

/-- A point's part of the loss, onto what the accumulator held. -/
theorem part_apply (b q : FVec Ideal S4096x1 .f32) (a : Vec Ideal S1x1 .f32) :
    k0_pay2 b q a (ix2 0 0) = a (ix2 0 0) + ∑ r : Fin 4096, (q (ix2 r 0) - b (ix2 r 0)) := by
  pointwise [k0_pay2]
  simp

/-- The last point's scaling. -/
theorem scaled_apply (a : Vec Ideal S1x1 .f32) :
    k0_pay3 a (ix2 0 0) = a (ix2 0 0) * Ideal.ofBits FTy.f32 0x35A00000#32 := by
  pointwise [k0_pay3]

/-- The first point's zero. -/
theorem zero_apply  :
    k0_pay1 (F := Ideal) (ix2 0 0) = 0 := by
  pointwise [k0_pay1]

variable (x : Vec Ideal S4096x64 .f32) (w : Vec Ideal S1024x64 .f32) (a : Fin 4096 → Fin 64 → ℝ) (W : Fin 1024 → Fin 64 → ℝ)
  (hx : ∀ r j, x (ix2 r j) = (a r j : EReal)) (hw : ∀ k j, w (ix2 k j) = (W k j : EReal))

include hx hw in
/-- On reals a score is the real score. -/
theorem score_real (r : Fin 4096) (k : Fin 1024) : k0_pay7 x w (ix2 r k) = (Rows.score (a r) W k : EReal) := by
  rw [score_apply]
  simp only [hx, hw, ← EReal.coe_add, ← EReal.coe_mul, Reals.sum_coe, ← EReal.coe_sub]
  rfl

include hx hw in
/-- On reals the greatest score is the real one. -/
theorem best_real (r : Fin 4096) : k0_pay8 x w (ix2 r 0) = (Rows.best (a r) W : EReal) := by
  rw [best_apply]
  simp only [score_real x w a W hx hw]
  exact Reals.fold_max_coe _ _ _

include hx hw in
/-- On reals the output block is the real output. -/
theorem out_real (r : Fin 4096) (l : Fin 64) : k0_pay9 x w (ix2 r l) = (Rows.kernelOut (a r) W l : EReal) := by
  rw [out_apply]
  simp only [score_real x w a W hx hw, best_real x w a W hx hw, Reals.indicator, Reals.log_sum_exp, Reals.ofBits_half, EReal.coe_eq_coe_iff]
  simp only [hx, hw, ← EReal.coe_add, ← EReal.coe_mul, Reals.sum_coe, ← EReal.coe_sub]
  rfl

include hx hw in
/-- On reals a point adds its rows' least distances to the running sum. -/
theorem part_real (acc : Vec Ideal S1x1 .f32) (s : ℝ) (hs : acc (ix2 0 0) = (s : EReal)) :
    k0_pay2 (k0_pay8 x w) (k0_pay10 x) acc (ix2 0 0) = ((s + ∑ r, Rows.least (a r) W : ℝ) : EReal) := by
  rw [part_apply]
  simp only [best_real x w a W hx hw, square_apply, hs]
  simp only [hx, hw, ← EReal.coe_add, ← EReal.coe_mul, Reals.sum_coe, ← EReal.coe_sub]
  simp only [Rows.least_eq]
  rfl

end Cert.Block

end
-- ==== Proof.KernelReal.lean ====
/- The kernel's two results on reals. -/
module

public import proofs.«01_k».proof.Proof.KernelRun
public import proofs.«01_k».proof.Proof.Block
public import proofs.«01_k».proof.Proof.Tokens

@[expose] public section

noncomputable section

namespace Cert.KernelReal

open Cert.KernelIdeal Cert.KernelIdeal.Gen Idealize.ShloMosaic

variable (x : Vec Ideal S16x1024x64 .f32) (w : Vec Ideal S1024x64 .f32)
  (A : Fin 16384 → Fin 64 → ℝ) (W : Fin 1024 → Fin 64 → ℝ)
  (hA : ∀ n j, KernelRun.rows x (ix2 n j) = (A n j : EReal)) (hW : ∀ k j, w (ix2 k j) = (W k j : EReal))

/-- The rows of one block of tokens. -/
def part (t : Fin 4) (r : Fin 4096) : Fin 64 → ℝ := A ⟨4096 * t.val + r.val, by omega⟩

include hA in
/-- A block's entry is the real entry of its row. -/
theorem block_real (t : Fin 4) (r : Fin 4096) (j : Fin 64) :
    KernelRun.block (KernelRun.rows x) t (ix2 r j) = (part A t r j : EReal) :=
  hA ⟨4096 * t.val + r.val, by omega⟩ j

include hA hW in
/-- The first result at an index is the kernel's real output for the token. -/
theorem out_real (i : S16x1024x64.Idx) :
    KernelRun.out x w i = (Rows.kernelOut (A (Tokens.row i)) W (Tokens.col i) : EReal) := by
  unfold KernelRun.out
  rw [Tokens.cast_apply]
  generalize Tokens.row i = n
  generalize Tokens.col i = l
  have h := Block.out_real (KernelRun.block (KernelRun.rows x) ⟨n.val / 4096, by omega⟩) w (part A ⟨n.val / 4096, by omega⟩) W
    (block_real x A hA _) hW ⟨n.val % 4096, by omega⟩ l
  refine Eq.trans h ?_
  have e : part A ⟨n.val / 4096, by omega⟩ ⟨n.val % 4096, by omega⟩ = A n := by
    unfold part
    exact congrArg A (Fin.ext (Nat.div_add_mod n.val 4096))
  rw [e]

include hA hW in
/-- The loss accumulated up to a block is the sum of the least distances of the blocks' tokens. -/
theorem sum_real (t : ℕ) :
    KernelRun.sum (KernelRun.rows x) w t (ix2 0 0)
      = ((∑ s ∈ Finset.range (t + 1), ∑ r, Rows.least (part A (Fin.ofNat 4 s) r) W : ℝ) : EReal) := by
  induction t with
  | zero =>
    have h := Block.part_real (KernelRun.block (KernelRun.rows x) 0) w (part A 0) W (block_real x A hA 0) hW (k0_pay1 (F := Ideal)) 0 (Block.zero_apply.trans EReal.coe_zero.symm)
    refine Eq.trans h ?_
    rw [Finset.sum_range_one]
    exact congrArg _ (zero_add _)
  | succ t ih =>
    have h := Block.part_real (KernelRun.block (KernelRun.rows x) (Fin.ofNat 4 (t + 1))) w (part A (Fin.ofNat 4 (t + 1))) W
      (block_real x A hA _) hW (KernelRun.sum (KernelRun.rows x) w t) _ ih
    refine Eq.trans h ?_
    rw [Finset.sum_range_succ _ (t + 1)]

include hA hW in
/-- The second result is the sum of the least distances, scaled. -/
theorem loss_real (i : S_.Idx) :
    KernelRun.loss x w i = (((∑ n, Rows.least (A n) W) * (5 / 4 / 1048576) : ℝ) : EReal) := by
  have cell : ∀ j : S1x1.Idx, j = ix2 0 0 := fun j => by
    rw [← ix2_eta j]
    exact congrArg₂ ix2 (Subsingleton.elim (α := Fin 1) _ _) (Subsingleton.elim (α := Fin 1) _ _)
  have h : KernelRun.loss x w i = KernelRun.lossCell (KernelRun.rows x) w (ix2 0 0) :=
    congrArg (KernelRun.lossCell (KernelRun.rows x) w) (cell _)
  rw [h]
  unfold KernelRun.lossCell
  rw [Block.scaled_apply, sum_real x w A W hA hW, Reals.ofBits_scale, ← EReal.coe_mul]
  refine congrArg (fun s : ℝ => ((s * (5 / 4 / 1048576) : ℝ) : EReal)) ?_
  rw [Finset.sum_range]
  refine Tokens.sum_split (m := 4) (n := 4096) (by norm_num) _ _ fun t r c hc => ?_
  have e : part A (Fin.ofNat 4 t.val) r = A c := by
    unfold part
    refine congrArg A (Fin.ext ?_)
    rw [hc]
    show 4096 * (t.val % 4) + r.val = _
    omega
  rw [e]

end Cert.KernelReal
-- ==== Proof.Equation.lean ====
/- The equation: on finite arguments the two programs' results are the same, the first wherever the nearest code is one. -/
module

public import proofs.«01_k».proof.Proof.Nearest
public import proofs.«01_k».proof.Proof.KernelReal

@[expose] public section

noncomputable section

namespace Cert.Equation

open Idealize.ShloMosaic

/-- Every entry is a real. -/
def Finite {s : Shape} (x : FVec Ideal s .f32) : Prop := ∀ i, ∃ r : ℝ, x i = (r : EReal)

variable (x : FVec Ideal ReferenceIdeal.S16x1024x64 .f32) (w : FVec Ideal ReferenceIdeal.S1024x64 .f32)

/-- The real arrays that finite arguments hold. -/
theorem reals (hx : Finite x) (hw : Finite w) : ∃ (A : Fin 16384 → Fin 64 → ℝ) (W : Fin 1024 → Fin 64 → ℝ),
    (∀ n j, RefRun.rows x (ix2 n j) = (A n j : EReal)) ∧ ∀ k j, w (ix2 k j) = (W k j : EReal) := by
  have h : ∀ n j, ∃ r : ℝ, RefRun.rows x (ix2 n j) = (r : EReal) := fun n j => hx _
  exact ⟨fun n j => (h n j).choose, fun k j => (hw (ix2 k j)).choose,
    fun n j => (h n j).choose_spec, fun k j => (hw (ix2 k j)).choose_spec⟩

/-- The two programs number the tokens' rows alike. -/
theorem rows_eq : KernelRun.rows (F := Ideal) x = RefRun.rows x := rfl

/-- The losses are the same. -/
theorem loss_eq (hx : Finite x) (hw : Finite w) : KernelRun.loss (F := Ideal) x w = RefRun.loss x w := by
  obtain ⟨A, W, hA, hW⟩ := reals x w hx hw
  obtain ⟨p, hp⟩ := RefReal.nearest_exists x w A W hA hW
  funext i
  rw [RefReal.loss_real x w A W hA hW p hp]
  exact KernelReal.loss_real x w A W hA hW i

/-- The outputs are the same at every token whose nearest code is one. -/
theorem out_eq (hx : Finite x) (hw : Finite w) (i : ReferenceIdeal.S16x1024x64.Idx)
    (h : Nearest.single (Nearest.hits (RefRun.dist x w)) (ix2 (Tokens.row i) 0) = 1#1) :
    KernelRun.out (F := Ideal) x w i = RefRun.out x w i := by
  obtain ⟨A, W, hA, hW⟩ := reals x w hx hw
  obtain ⟨p, hp⟩ := RefReal.nearest_exists x w A W hA hW
  rw [RefReal.out_real x w A W hA hW p hp]
  refine (KernelReal.out_real x w A W hA hW i).trans (congrArg _ ?_)
  generalize Tokens.row i = n at h ⊢
  have near : ∀ k, Rows.score (A n) W k = Rows.best (A n) W → Nearest.hits (RefRun.dist x w) (ix2 n k) = 1#1 := fun k hk =>
    (Nearest.hits_real _ n _ (RefReal.dist_real x w A W hA hW n) k).2 ((Rows.dist_eq_least (A n) W k).2 hk)
  have own : Rows.score (A n) W (p n) = Rows.best (A n) W := (Rows.dist_eq_least (A n) W (p n)).1 (hp n).2
  exact Rows.kernelOut_eq (A n) W (p n) own
    (fun k hk => Nearest.single_unique _ n h k (p n) (near k hk) (near (p n) own)) (Tokens.col i)

end Cert.Equation
-- ==== Proof.Predicates.lean ====
/- What the preconditions and the mask say. -/
module

public import proofs.«01_k».proof.Defs
public import proofs.«01_k».proof.Proof.Equation

@[expose] public section

noncomputable section

namespace Cert.Predicates

open Idealize.ShloMosaic

/-- The side conditions of the finiteness precondition. -/
instance finite_facts : Cert.Pre_finite.Facts where
  bcast_S_S16x1024x64 := by decide
  bcast_S_S1024x64 := by decide

/-- The side conditions of the precondition that also asks for one nearest code. -/
instance tame_facts : Cert.Pre_tame.Facts where
  shapeCasts_S16x1024x64_S16384x64 := by decide
  reducesTo_S16384x64_S16384_d1 := by decide
  h_S_ := by decide
  bcast_S16384_S16384x1_0 := by decide
  transposes_S1024x64_S64x1024_1_0 := by decide
  bcast_S_S16384x1024 := by decide
  bcast_S16384x1_S16384x1024_0_1 := by decide
  reducesTo_S64x1024_S1024_d0 := by decide
  bcast_S1024_S1x1024_1 := by decide
  bcast_S1x1024_S16384x1024_0_1 := by decide
  reducesTo_S16384x1024_S16384_d1 := by decide
  natLt_1_32 := by decide
  bcast_S_S16384x1 := by decide
  bcast_S_S16x1024x64 := by decide
  bcast_S_S1024x64 := by decide
  dot_S16384x64_S64x1024_S16384x1024_1_0_0_1_n_n_wf := by decide

/-- The side conditions of the mask. -/
instance mask_facts : Cert.On_nearest_is_one.Facts where
  shapeCasts_S16x1024x64_S16384x64 := by decide
  reducesTo_S16384x64_S16384_d1 := by decide
  h_S_ := by decide
  bcast_S16384_S16384x1_0 := by decide
  transposes_S1024x64_S64x1024_1_0 := by decide
  bcast_S_S16384x1024 := by decide
  bcast_S16384x1_S16384x1024_0_1 := by decide
  reducesTo_S64x1024_S1024_d0 := by decide
  bcast_S1024_S1x1024_1 := by decide
  bcast_S1x1024_S16384x1024_0_1 := by decide
  reducesTo_S16384x1024_S16384_d1 := by decide
  natLt_1_32 := by decide
  bcast_S_S16384x1 := by decide
  bcast_S16384x1_S16384x64_0_1 := by decide
  shapeCasts_S16384x64_S16x1024x64 := by decide
  dot_S16384x64_S64x1024_S16384x1024_1_0_0_1_n_n_wf := by decide

/-- A number whose magnitude is below infinity is a real. -/
theorem real_of_abs_lt (a : EReal) (h : max a (-a) < ⊤) : ∃ r : ℝ, a = (r : EReal) := by
  induction a with
  | bot => simp at h
  | coe r => exact ⟨r, rfl⟩
  | top => simp at h

/-- An array whose magnitudes all compare below infinity holds reals. -/
theorem finite_of_less {s : Shape} (x : FVec Ideal s .f32)
    (h : ∀ i, FloatOps.cmpf (F := Ideal) .olt (FloatOps.absf (x i)) (Ideal.ofBits FTy.f32 0x7F800000#32) = 1#1) : Equation.Finite x := by
  intro i
  have hi := h i
  rw [Reals.ofBits_top] at hi
  refine real_of_abs_lt (x i) ?_
  have hi' : BitVec.ofBool (decide (max (x i : EReal) (-x i) < ⊤)) = 1#1 := hi
  exact (Nearest.bit_one _).1 hi'

variable (x : FVec Ideal ReferenceIdeal.S16x1024x64 .f32) (w : FVec Ideal ReferenceIdeal.S1024x64 .f32)

/-- The finiteness precondition's first array. -/
theorem finite_tokens (h : (Cert.Pre_finite.fn (F := Ideal) x w).1 = fun _ => 1#1) : Equation.Finite x :=
  finite_of_less x fun i => congrFun h i

/-- The finiteness precondition's second array. -/
theorem finite_codes (h : (Cert.Pre_finite.fn (F := Ideal) x w).2 = fun _ => 1#1) : Equation.Finite w :=
  finite_of_less w fun i => congrFun h i

/-- The other precondition's first array is the finiteness precondition's. -/
theorem tame_tokens : (Cert.Pre_tame.fn (F := Ideal) x w).1 = (Cert.Pre_finite.fn (F := Ideal) x w).1 := rfl

/-- The other precondition's second array is the finiteness precondition's. -/
theorem tame_codes : (Cert.Pre_tame.fn (F := Ideal) x w).2.1 = (Cert.Pre_finite.fn (F := Ideal) x w).2 := rfl

/-- The product's axes in the other precondition are the reference's. -/
theorem tame_axes : Pre_tame.dot_S16384x64_S64x1024_S16384x1024_1_0_0_1_n_n = ReferenceIdeal.dot_S16384x64_S64x1024_S16384x1024_1_0_0_1_n_n := rfl

/-- The product's axes in the mask are the reference's. -/
theorem mask_axes : On_nearest_is_one.dot_S16384x64_S64x1024_S16384x1024_1_0_0_1_n_n = ReferenceIdeal.dot_S16384x64_S64x1024_S16384x1024_1_0_0_1_n_n := rfl

/-- The other precondition's third array counts the codes at the least distance. -/
theorem tame_single : (Cert.Pre_tame.fn (F := Ideal) x w).2.2 = Nearest.single (Nearest.hits (RefRun.dist x w)) := by
  unfold Pre_tame.fn Pre_tame.fn_part1 Nearest.single Nearest.hits RefRun.dist RefRun.rows RefRun.wt
  rw [tame_axes]

/-- The mask spreads the same count over the tokens' columns. -/
theorem mask_eq : (Cert.On_nearest_is_one.fn (F := Ideal) x w).1
    = shapeCast ⟨3, ![16, 1024, 64]⟩
        (broadcastInDim ⟨2, ![16384, 64]⟩ ![0, 1] mask_facts.bcast_S16384x1_S16384x64_0_1 (Nearest.single (Nearest.hits (RefRun.dist x w))))
        mask_facts.shapeCasts_S16384x64_S16x1024x64 := by
  unfold On_nearest_is_one.fn On_nearest_is_one.fn_part1 Nearest.single Nearest.hits RefRun.dist RefRun.rows RefRun.wt
  rw [mask_axes]

/-- A column spread over columns, at an index. -/
theorem spread (S : IVec ⟨2, ![16384, 1]⟩ 1) (n : Fin 16384) (l : Fin 64) :
    broadcastInDim ⟨2, ![16384, 64]⟩ ![0, 1] mask_facts.bcast_S16384x1_S16384x64_0_1 S (ix2 n l) = S (ix2 n 0) := by
  pointwise []

/-- Where the mask is one the token's nearest code is one. -/
theorem mask_single (i : ReferenceIdeal.S16x1024x64.Idx) (h : (Cert.On_nearest_is_one.fn (F := Ideal) x w).1 i = 1#1) :
    Nearest.single (Nearest.hits (RefRun.dist x w)) (ix2 (Tokens.row i) 0) = 1#1 := by
  rw [mask_eq, Tokens.cast_apply] at h
  exact (spread _ _ _).symm.trans h

end Cert.Predicates
-- ==== Proof.Values.lean ====
/- The value claims and the reference's frame. -/
module

public import proofs.«01_k».proof.Defs
public import proofs.«01_k».proof.Proof.Predicates
public import Idealize.ShloMosaic.Lib.Quiescent

@[expose] public section

noncomputable section

namespace Cert.Values

open Idealize.ShloMosaic Idealize.ShloMosaic.TcCoe Idealize.SL.Sem

/-- The reference declares no semaphore. -/
theorem no_sems : ReferenceIdeal.sig.nSem + ReferenceIdeal.sig.nDmaSem = 0 := by decide

/-- The reference's frame: it runs, its arguments end unchanged, and it has no counter that could end elsewhere. -/
theorem reference_frame (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1))
        ∧ r.2.sem = fun _ => 0) :=
  (θ_run _ _ _).mono (fun r h => ⟨fun c => (h c).2.2, sem_eq_zero_of_no_sems no_sems r.2⟩) (RefRun.run m ρ)

/-- On finite arguments the losses agree, and the outputs agree at the tokens whose nearest code is one. -/
theorem where_one : algebraic_KernelIdeal_ReferenceIdeal_on_nearest_is_one_pre_finite := by
  intro m g m' g' hpre hargs
  refine ⟨fun c => RefRun.out (F := Ideal) (m ((c.tc : Thread KernelIdeal.nD KernelIdeal.τ).loc KernelIdeal.main_arg0)) (m ((c.tc : Thread KernelIdeal.nD KernelIdeal.τ).loc KernelIdeal.main_arg1)),
    fun c => RefRun.loss (F := Ideal) (m ((c.tc : Thread KernelIdeal.nD KernelIdeal.τ).loc KernelIdeal.main_arg0)) (m ((c.tc : Thread KernelIdeal.nD KernelIdeal.τ).loc KernelIdeal.main_arg1)),
    (θ_run _ _ _).mono (fun r h c => ?_) (KernelRun.run (F := Ideal) m g), (θ_run _ _ _).mono (fun r h c => ?_) (RefRun.run (F := Ideal) m' g')⟩
  · obtain ⟨h0, h1, h2, h3⟩ := h c
    have hx := Predicates.finite_tokens _ _ (hpre c).1
    have hw := Predicates.finite_codes _ _ (hpre c).2
    exact ⟨fun i hi => (congrFun h0 i).trans (Equation.out_eq _ _ hx hw i (Predicates.mask_single _ _ i hi)),
      fun i _ => (congrFun h1 i).trans (congrFun (Equation.loss_eq _ _ hx hw) i), h2, h3⟩
  · obtain ⟨h0, h1, h2, h3⟩ := h c
    rw [(hargs c).1, (hargs c).2] at h0 h1
    exact ⟨fun i _ => congrFun h0 i, fun i _ => congrFun h1 i, h2, h3⟩

/-- Where every token's nearest code is one, both whole results agree. -/
theorem whole : algebraic_KernelIdeal_ReferenceIdeal_pre_tame := by
  intro m g m' g' hpre hargs
  refine ⟨fun c => RefRun.out (F := Ideal) (m ((c.tc : Thread KernelIdeal.nD KernelIdeal.τ).loc KernelIdeal.main_arg0)) (m ((c.tc : Thread KernelIdeal.nD KernelIdeal.τ).loc KernelIdeal.main_arg1)),
    fun c => RefRun.loss (F := Ideal) (m ((c.tc : Thread KernelIdeal.nD KernelIdeal.τ).loc KernelIdeal.main_arg0)) (m ((c.tc : Thread KernelIdeal.nD KernelIdeal.τ).loc KernelIdeal.main_arg1)),
    (θ_run _ _ _).mono (fun r h c => ?_) (KernelRun.run (F := Ideal) m g), (θ_run _ _ _).mono (fun r h c => ?_) (RefRun.run (F := Ideal) m' g')⟩
  · obtain ⟨h0, h1, h2, h3⟩ := h c
    have hx := Predicates.finite_tokens _ _ ((Predicates.tame_tokens _ _).symm.trans (hpre c).1)
    have hw := Predicates.finite_codes _ _ ((Predicates.tame_codes _ _).symm.trans (hpre c).2.1)
    have hs := (Predicates.tame_single _ _).symm.trans (hpre c).2.2
    exact ⟨h0.trans (funext fun i => Equation.out_eq _ _ hx hw i (congrFun hs _)), h1.trans (Equation.loss_eq _ _ hx hw), h2, h3⟩
  · obtain ⟨h0, h1, h2, h3⟩ := h c
    rw [(hargs c).1, (hargs c).2] at h0 h1
    exact ⟨h0, h1, h2, h3⟩

end Cert.Values

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Values

@[expose] public section

noncomputable section

namespace Cert.Proof

/-- Every claim of the certificate. -/
theorem claim : Cert.Claim :=
  ⟨Cert.Kernel.Gen.facts, Cert.KernelIdeal.Gen.facts, Cert.ReferenceIdeal.Gen.facts,
    Predicates.tame_facts, Predicates.finite_facts, Predicates.mask_facts,
    fun m ρ _ => Cert.Kernel.Gen.frame m ρ,
    fun m ρ _ => Cert.KernelIdeal.Gen.frame m ρ,
    fun m ρ _ => Cert.KernelIdeal.Gen.frame m ρ,
    fun m ρ _ => Cert.KernelIdeal.Gen.frame m ρ,
    fun m ρ _ => Values.reference_frame m ρ,
    fun m ρ _ => Values.reference_frame m ρ,
    fun m ρ _ => Values.reference_frame m ρ,
    trivial, Values.whole, Values.where_one⟩

end Cert.Proof

end
